-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_row_maximum [hPre_finite_row_maximum : Cert.Pre_finite_row_maximum.Facts] (m : (ℓ : Loc Cert.KernelIdeal.nD Cert.KernelIdeal.τ Cert.KernelIdeal.sig) → Buf (Elt Ideal) ℓ) : Prop :=
  ∀ c : Dev Cert.KernelIdeal.nD,
    (Cert.Pre_finite_row_maximum.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_row_maximum [hPre_finite_row_maximum : Cert.Pre_finite_row_maximum.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_row_maximum.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite_row_maximum [hKernelIdeal : Cert.KernelIdeal.Facts] [hPre_finite_row_maximum : Cert.Pre_finite_row_maximum.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_row_maximum m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite_row_maximum [hReferenceIdeal : Cert.ReferenceIdeal.Facts] [hPre_finite_row_maximum : Cert.Pre_finite_row_maximum.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_row_maximum m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_finite_row_maximum [hKernelIdeal : Cert.KernelIdeal.Facts] [hReferenceIdeal : Cert.ReferenceIdeal.Facts] [hPre_finite_row_maximum : Cert.Pre_finite_row_maximum.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_row_maximum m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_row_maximum : Cert.Pre_finite_row_maximum.Facts),
    quiescent_Kernel (hKernel := hKernel)
    ∧ quiescent_KernelIdeal (hKernelIdeal := hKernelIdeal)
    ∧ quiescent_KernelIdeal_pre_finite_row_maximum (hKernelIdeal := hKernelIdeal) (hPre_finite_row_maximum := hPre_finite_row_maximum)
    ∧ quiescent_ReferenceIdeal (hReferenceIdeal := hReferenceIdeal)
    ∧ quiescent_ReferenceIdeal_pre_finite_row_maximum (hReferenceIdeal := hReferenceIdeal) (hPre_finite_row_maximum := hPre_finite_row_maximum)
    ∧ preserves_Kernel_KernelIdeal
    ∧ algebraic_KernelIdeal_ReferenceIdeal_pre_finite_row_maximum (hKernelIdeal := hKernelIdeal) (hReferenceIdeal := hReferenceIdeal) (hPre_finite_row_maximum := hPre_finite_row_maximum)
-- ==== Pre_finite_row_maximum.lean ====
abbrev S32x1000000 : Shape := ⟨2, ![32, 1000000]⟩
abbrev S_ : Shape := ⟨0, ![]⟩
abbrev S32 : Shape := ⟨1, ![32]⟩

class Facts : Prop where
  reducesTo_S32x1000000_S32_d1 : S32x1000000.ReducesTo [1] S32
  h_S_ : 0 < S_.numel
  bcast_S_S32 : S_.BroadcastsInDim S32 (![] : Fin 0 → Fin S32.rank)
  reducesTo_S32_S_d0 : S32.ReducesTo [0] S_

variable [Facts]

def fn {F : FTy → Type} [FloatOps F] (main_arg0 : FVec F S32x1000000 .f32) : IVec S_ 1 :=
  let main_cst : FVec F S_ .f32 := constant S_ .f32 0xFF800000#32
  let main_v0 : FVec F S32 .f32 := (fun x v => Host.reduce FloatOps.maximumf x v reducesTo_S32x1000000_S32_d1 h_S_) main_arg0 main_cst
  let main_cst_0 : FVec F S_ .f32 := constant S_ .f32 0xFF800000#32
  let main_v1 : FVec F S32 .f32 := broadcastInDim S32 ![] bcast_S_S32 main_cst_0
  let main_v2 : IVec S32 1 := cmpf .ogt main_v0 main_v1
  let main_cst_1 : FVec F S_ .f32 := constant S_ .f32 0x7F800000#32
  let main_v3 : FVec F S32 .f32 := broadcastInDim S32 ![] bcast_S_S32 main_cst_1
  let main_v4 : IVec S32 1 := cmpf .olt main_v0 main_v3
  let main_v5 : IVec S32 1 := andi main_v2 main_v4
  let main_c : IVec S_ 1 := constantI S_ 1 1#1
  let main_v6 : IVec S_ 1 := (fun x v => Host.reduce IntOp.andi x v reducesTo_S32_S_d0 h_S_) main_v5 main_c
  main_v6
-- ==== Kernel.lean ====
abbrev S32x1000000 : Shape := ⟨2, ![32, 1000000]⟩
abbrev S32x1 : Shape := ⟨2, ![32, 1]⟩
abbrev S32x16384 : Shape := ⟨2, ![32, 16384]⟩
abbrev S32x256 : Shape := ⟨2, ![32, 256]⟩
abbrev S32 : Shape := ⟨1, ![32]⟩

abbrev nBuf : Space → Nat
  | .hbm => 2
  | .vmem => 5
  | .smem => 0
  | _ => 0

abbrev bufTy : (tb : Table) → Fin (tcTables nBuf tb) → BufTy
  | .hbm, ⟨0, _⟩ => ⟨S32x1000000, .f32⟩
  | .hbm, ⟨1, _⟩ => ⟨S32x1, .i32⟩
  | .local _ .vmem, ⟨0, _⟩ => ⟨S32x16384, .f32⟩
  | .local _ .vmem, ⟨1, _⟩ => ⟨S32x16384, .f32⟩
  | .local _ .vmem, ⟨2, _⟩ => ⟨S32x1, .i32⟩
  | .local _ .vmem, ⟨3, _⟩ => ⟨S32x256, .f32⟩
  | .local _ .vmem, ⟨4, _⟩ => ⟨S32x256, .i32⟩
  | _, _ => ⟨S32x1000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![62], ![false]⟩

def k0_cond3 (i : grid0.Coords) : BitVec 1 :=
  let arg0 : BitVec 32 := BitVec.ofNat 32 (i 0).val
  let c61_i32_2 : BitVec 32 := 61#32
  let v11 : BitVec 1 := Scalar.cmpi .eq arg0 c61_i32_2
  let v12 : BitVec 32 := Scalar.extui v11
  let c0_i32_3 : BitVec 32 := 0#32
  let v13 : BitVec 1 := Scalar.cmpi .ne v12 c0_i32_3
  v13

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== ReferenceIdeal.lean ====
abbrev S32x1000000 : Shape := ⟨2, ![32, 1000000]⟩
abbrev S_ : Shape := ⟨0, ![]⟩
abbrev S32 : Shape := ⟨1, ![32]⟩
abbrev S32x1 : Shape := ⟨2, ![32, 1]⟩
abbrev S1 : Shape := ⟨1, ![1]⟩
abbrev S2 : Shape := ⟨1, ![2]⟩

abbrev nBuf : Space → Nat
  | .hbm => 294
  | .vmem => 0
  | .smem => 0
  | _ => 0

abbrev hbmTy0_0 (i : Nat) : BufTy := match i % 128 with
  | 0 => ⟨S32x1000000, .f32⟩
  | 1 => ⟨S_, .f32⟩
  | 2 => ⟨S32x1000000, .f32⟩
  | 3 => ⟨S32x1000000, .f32⟩
  | 4 => ⟨S_, .f32⟩
  | 5 => ⟨S32, .f32⟩
  | 6 => ⟨S_, .f32⟩
  | 7 => ⟨S32, .f32⟩
  | 8 => ⟨S32, .f32⟩
  | 9 => ⟨S32x1, .f32⟩
  | 10 => ⟨S32x1000000, .f32⟩
  | 11 => ⟨S32x1000000, .f32⟩
  | 12 => ⟨S32x1000000, .f32⟩
  | 13 => ⟨S_, .f32⟩
  | 14 => ⟨S32, .f32⟩
  | 15 => ⟨S32x1, .f32⟩
  | 16 => ⟨S32x1000000, .f32⟩
  | 17 => ⟨S32x1000000, .f32⟩
  | 18 => ⟨S32x1000000, .f32⟩
  | 19 => ⟨S_, .i32⟩
  | 20 => ⟨S_, .i32⟩
  | 21 => ⟨S_, .i32⟩
  | 22 => ⟨S_, .i32⟩
  | 23 => ⟨S1, .i32⟩
  | 24 => ⟨S_, .i32⟩
  | 25 => ⟨S_, .i32⟩
  | 26 => ⟨S_, .i32⟩
  | 27 => ⟨S1, .i32⟩
  | 28 => ⟨S2, .i32⟩
  | 29 => ⟨S1, .i32⟩
  | 30 => ⟨S_, .i32⟩
  | 31 => ⟨S1, .i32⟩
  | 32 => ⟨S_, .i32⟩
  | 33 => ⟨S32x1000000, .i64⟩
  | 34 => ⟨S32x1000000, .i64⟩
  | 35 => ⟨S_, .i64⟩
  | 36 => ⟨S32x1000000, .i64⟩
  | 37 => ⟨S32x1000000, .i64⟩
  | 38 => ⟨S_, .i64⟩
  | 39 => ⟨S32x1000000, .i64⟩
  | 40 => ⟨S32x1000000, .i64⟩
  | 41 => ⟨S32x1000000, .i64⟩
  | 42 => ⟨S_, .i64⟩
  | 43 => ⟨S32x1000000, .i64⟩
  | 44 => ⟨S32x1000000, .i64⟩
  | 45 => ⟨S32x1000000, .i32⟩
  | 46 => ⟨S32x1000000, .i32⟩
  | 47 => ⟨S_, .i32⟩
  | 48 => ⟨S_, .i32⟩
  | 49 => ⟨S_, .i32⟩
  | 50 => ⟨S32x1000000, .i32⟩
  | 51 => ⟨S32x1000000, .i32⟩
  | 52 => ⟨S32x1000000, .i32⟩
  | 53 => ⟨S32x1000000, .i32⟩
  | 54 => ⟨S32x1000000, .i32⟩
  | 55 => ⟨S_, .i32⟩
  | 56 => ⟨S32x1000000, .i32⟩
  | 57 => ⟨S32x1000000, .i32⟩
  | 58 => ⟨S_, .i32⟩
  | 59 => ⟨S32x1000000, .i32⟩
  | 60 => ⟨S32x1000000, .i32⟩
  | 61 => ⟨S32x1000000, .i32⟩
  | 62 => ⟨S32x1000000, .i32⟩
  | 63 => ⟨S32x1000000, .i32⟩
  | 64 => ⟨S_, .i32⟩
  | 65 => ⟨S32x1000000, .i32⟩
  | 66 => ⟨S32x1000000, .i32⟩
  | 67 => ⟨S_, .i32⟩
  | 68 => ⟨S32x1000000, .i32⟩
  | 69 => ⟨S32x1000000, .i32⟩
  | 70 => ⟨S32x1000000, .i32⟩
  | 71 => ⟨S32x1000000, .i32⟩
  | 72 => ⟨S32x1000000, .i32⟩
  | 73 => ⟨S_, .i32⟩
  | 74 => ⟨S32x1000000, .i32⟩
  | 75 => ⟨S32x1000000, .i32⟩
  | 76 => ⟨S_, .i32⟩
  | 77 => ⟨S32x1000000, .i32⟩
  | 78 => ⟨S32x1000000, .i32⟩
  | 79 => ⟨S32x1000000, .i32⟩
  | 80 => ⟨S32x1000000, .i32⟩
  | 81 => ⟨S32x1000000, .i32⟩
  | 82 => ⟨S_, .i32⟩
  | 83 => ⟨S32x1000000, .i32⟩
  | 84 => ⟨S32x1000000, .i32⟩
  | 85 => ⟨S_, .i32⟩
  | 86 => ⟨S32x1000000, .i32⟩
  | 87 => ⟨S32x1000000, .i32⟩
  | 88 => ⟨S32x1000000, .i32⟩
  | 89 => ⟨S32x1000000, .i32⟩
  | 90 => ⟨S32x1000000, .i32⟩
  | 91 => ⟨S32x1000000, .i32⟩
  | 92 => ⟨S32x1000000, .i32⟩
  | 93 => ⟨S32x1000000, .i32⟩
  | 94 => ⟨S_, .i32⟩
  | 95 => ⟨S32x1000000, .i32⟩
  | 96 => ⟨S32x1000000, .i32⟩
  | 97 => ⟨S32x1000000, .i32⟩
  | 98 => ⟨S_, .i32⟩
  | 99 => ⟨S32x1000000, .i32⟩
  | 100 => ⟨S32x1000000, .i32⟩
  | 101 => ⟨S_, .i32⟩
  | 102 => ⟨S32x1000000, .i32⟩
  | 103 => ⟨S32x1000000, .i32⟩
  | 104 => ⟨S32x1000000, .i32⟩
  | 105 => ⟨S32x1000000, .i32⟩
  | 106 => ⟨S32x1000000, .i32⟩
  | 107 => ⟨S_, .i32⟩
  | 108 => ⟨S32x1000000, .i32⟩
  | 109 => ⟨S32x1000000, .i32⟩
  | 110 => ⟨S_, .i32⟩
  | 111 => ⟨S32x1000000, .i32⟩
  | 112 => ⟨S32x1000000, .i32⟩
  | 113 => ⟨S32x1000000, .i32⟩
  | 114 => ⟨S32x1000000, .i32⟩
  | 115 => ⟨S32x1000000, .i32⟩
  | 116 => ⟨S_, .i32⟩
  | 117 => ⟨S32x1000000, .i32⟩
  | 118 => ⟨S32x1000000, .i32⟩
  | 119 => ⟨S_, .i32⟩
  | 120 => ⟨S32x1000000, .i32⟩
  | 121 => ⟨S32x1000000, .i32⟩
  | 122 => ⟨S32x1000000, .i32⟩
  | 123 => ⟨S32x1000000, .i32⟩
  | 124 => ⟨S32x1000000, .i32⟩
  | 125 => ⟨S_, .i32⟩
  | 126 => ⟨S32x1000000, .i32⟩
  | 127 => ⟨S32x1000000, .i32⟩
  | _ => ⟨S32x1000000, .f32⟩

abbrev hbmTy0_1 (i : Nat) : BufTy := match i % 128 with
  | 0 => ⟨S_, .i32⟩
  | 1 => ⟨S32x1000000, .i32⟩
  | 2 => ⟨S32x1000000, .i32⟩
  | 3 => ⟨S32x1000000, .i32⟩
  | 4 => ⟨S32x1000000, .i32⟩
  | 5 => ⟨S32x1000000, .i32⟩
  | 6 => ⟨S32x1000000, .i32⟩
  | 7 => ⟨S32x1000000, .i32⟩
  | 8 => ⟨S32x1000000, .i32⟩
  | 9 => ⟨S_, .i32⟩
  | 10 => ⟨S32x1000000, .i32⟩
  | 11 => ⟨S32x1000000, .i32⟩
  | 12 => ⟨S32x1000000, .i32⟩
  | 13 => ⟨S_, .i32⟩
  | 14 => ⟨S32x1000000, .i32⟩
  | 15 => ⟨S32x1000000, .i32⟩
  | 16 => ⟨S_, .i32⟩
  | 17 => ⟨S32x1000000, .i32⟩
  | 18 => ⟨S32x1000000, .i32⟩
  | 19 => ⟨S32x1000000, .i32⟩
  | 20 => ⟨S32x1000000, .i32⟩
  | 21 => ⟨S32x1000000, .i32⟩
  | 22 => ⟨S_, .i32⟩
  | 23 => ⟨S32x1000000, .i32⟩
  | 24 => ⟨S32x1000000, .i32⟩
  | 25 => ⟨S_, .i32⟩
  | 26 => ⟨S32x1000000, .i32⟩
  | 27 => ⟨S32x1000000, .i32⟩
  | 28 => ⟨S32x1000000, .i32⟩
  | 29 => ⟨S32x1000000, .i32⟩
  | 30 => ⟨S32x1000000, .i32⟩
  | 31 => ⟨S_, .i32⟩
  | 32 => ⟨S32x1000000, .i32⟩
  | 33 => ⟨S32x1000000, .i32⟩
  | 34 => ⟨S_, .i32⟩
  | 35 => ⟨S32x1000000, .i32⟩
  | 36 => ⟨S32x1000000, .i32⟩
  | 37 => ⟨S32x1000000, .i32⟩
  | 38 => ⟨S32x1000000, .i32⟩
  | 39 => ⟨S32x1000000, .i32⟩
  | 40 => ⟨S_, .i32⟩
  | 41 => ⟨S32x1000000, .i32⟩
  | 42 => ⟨S32x1000000, .i32⟩
  | 43 => ⟨S_, .i32⟩
  | 44 => ⟨S32x1000000, .i32⟩
  | 45 => ⟨S32x1000000, .i32⟩
  | 46 => ⟨S32x1000000, .i32⟩
  | 47 => ⟨S32x1000000, .i32⟩
  | 48 => ⟨S32x1000000, .i32⟩
  | 49 => ⟨S32x1000000, .i32⟩
  | 50 => ⟨S32x1000000, .i32⟩
  | 51 => ⟨S32x1000000, .i32⟩
  | 52 => ⟨S_, .i32⟩
  | 53 => ⟨S32x1000000, .i32⟩
  | 54 => ⟨S32x1000000, .i32⟩
  | 55 => ⟨S32x1000000, .i32⟩
  | 56 => ⟨S_, .i32⟩
  | 57 => ⟨S32x1000000, .i32⟩
  | 58 => ⟨S32x1000000, .i32⟩
  | 59 => ⟨S_, .i32⟩
  | 60 => ⟨S32x1000000, .i32⟩
  | 61 => ⟨S32x1000000, .i32⟩
  | 62 => ⟨S32x1000000, .i32⟩
  | 63 => ⟨S32x1000000, .i32⟩
  | 64 => ⟨S32x1000000, .i32⟩
  | 65 => ⟨S_, .i32⟩
  | 66 => ⟨S32x1000000, .i32⟩
  | 67 => ⟨S32x1000000, .i32⟩
  | 68 => ⟨S_, .i32⟩
  | 69 => ⟨S32x1000000, .i32⟩
  | 70 => ⟨S32x1000000, .i32⟩
  | 71 => ⟨S32x1000000, .i32⟩
  | 72 => ⟨S32x1000000, .i32⟩
  | 73 => ⟨S32x1000000, .i32⟩
  | 74 => ⟨S_, .i32⟩
  | 75 => ⟨S32x1000000, .i32⟩
  | 76 => ⟨S32x1000000, .i32⟩
  | 77 => ⟨S_, .i32⟩
  | 78 => ⟨S32x1000000, .i32⟩
  | 79 => ⟨S32x1000000, .i32⟩
  | 80 => ⟨S32x1000000, .i32⟩
  | 81 => ⟨S32x1000000, .i32⟩
  | 82 => ⟨S32x1000000, .i32⟩
  | 83 => ⟨S_, .i32⟩
  | 84 => ⟨S32x1000000, .i32⟩
  | 85 => ⟨S32x1000000, .i32⟩
  | 86 => ⟨S_, .i32⟩
  | 87 => ⟨S32x1000000, .i32⟩
  | 88 => ⟨S32x1000000, .i32⟩
  | 89 => ⟨S32x1000000, .i32⟩
  | 90 => ⟨S32x1000000, .i32⟩
  | 91 => ⟨S32x1000000, .i32⟩
  | 92 => ⟨S32x1000000, .i32⟩
  | 93 => ⟨S32x1000000, .i32⟩
  | 94 => ⟨S32x1000000, .i32⟩
  | 95 => ⟨S_, .i32⟩
  | 96 => ⟨S32x1000000, .i32⟩
  | 97 => ⟨S32x1000000, .i32⟩
  | 98 => ⟨S32x1000000, .i32⟩
  | 99 => ⟨S_, .i32⟩
  | 100 => ⟨S32x1000000, .i32⟩
  | 101 => ⟨S32x1000000, .i32⟩
  | 102 => ⟨S_, .i32⟩
  | 103 => ⟨S32x1000000, .i32⟩
  | 104 => ⟨S32x1000000, .i32⟩
  | 105 => ⟨S32x1000000, .i32⟩
  | 106 => ⟨S32x1000000, .i32⟩
  | 107 => ⟨S32x1000000, .i32⟩
  | 108 => ⟨S_, .i32⟩
  | 109 => ⟨S32x1000000, .i32⟩
  | 110 => ⟨S32x1000000, .i32⟩
  | 111 => ⟨S_, .i32⟩
  | 112 => ⟨S32x1000000, .i32⟩
  | 113 => ⟨S32x1000000, .i32⟩
  | 114 => ⟨S32x1000000, .i32⟩
  | 115 => ⟨S32x1000000, .i32⟩
  | 116 => ⟨S32x1000000, .i32⟩
  | 117 => ⟨S_, .i32⟩
  | 118 => ⟨S32x1000000, .i32⟩
  | 119 => ⟨S32x1000000, .i32⟩
  | 120 => ⟨S_, .i32⟩
  | 121 => ⟨S32x1000000, .i32⟩
  | 122 => ⟨S32x1000000, .i32⟩
  | 123 => ⟨S32x1000000, .i32⟩
  | 124 => ⟨S32x1000000, .i32⟩
  | 125 => ⟨S32x1000000, .i32⟩
  | 126 => ⟨S_, .i32⟩
  | 127 => ⟨S32x1000000, .i32⟩
  | _ => ⟨S32x1000000, .f32⟩

abbrev hbmTy0_2 (i : Nat) : BufTy := match i % 128 with
  | 0 => ⟨S32x1000000, .i32⟩
  | 1 => ⟨S_, .i32⟩
  | 2 => ⟨S32x1000000, .i32⟩
  | 3 => ⟨S32x1000000, .i32⟩
  | 4 => ⟨S32x1000000, .i32⟩
  | 5 => ⟨S32x1000000, .i32⟩
  | 6 => ⟨S32x1000000, .i32⟩
  | 7 => ⟨S32x1000000, .i32⟩
  | 8 => ⟨S32x1000000, .i32⟩
  | 9 => ⟨S32x1000000, .i32⟩
  | 10 => ⟨S_, .i32⟩
  | 11 => ⟨S32x1000000, .i32⟩
  | 12 => ⟨S32x1000000, .i32⟩
  | 13 => ⟨S32x1000000, .i32⟩
  | 14 => ⟨S_, .i32⟩
  | 15 => ⟨S32x1000000, .i32⟩
  | 16 => ⟨S32x1000000, .i32⟩
  | 17 => ⟨S_, .i32⟩
  | 18 => ⟨S32x1000000, .i32⟩
  | 19 => ⟨S32x1000000, .i32⟩
  | 20 => ⟨S32x1000000, .f32⟩
  | 21 => ⟨S_, .f32⟩
  | 22 => ⟨S32x1000000, .f32⟩
  | 23 => ⟨S32x1000000, .f32⟩
  | 24 => ⟨S_, .f32⟩
  | 25 => ⟨S32x1000000, .f32⟩
  | 26 => ⟨S32x1000000, .f32⟩
  | 27 => ⟨S32x1000000, .f32⟩
  | 28 => ⟨S32x1000000, .f32⟩
  | 29 => ⟨S32x1000000, .f32⟩
  | 30 => ⟨S32x1000000, .f32⟩
  | 31 => ⟨S32x1000000, .f32⟩
  | 32 => ⟨S32x1000000, .i32⟩
  | 33 => ⟨S_, .f32⟩
  | 34 => ⟨S_, .i32⟩
  | 35 => ⟨S32, .f32⟩
  | 36 => ⟨S32, .i32⟩
  | 37 => ⟨S32x1, .i32⟩
  | _ => ⟨S32x1000000, .f32⟩

abbrev hbmTy (i : Nat) : BufTy := match i / 128 with
  | 0 => hbmTy0_0 i
  | 1 => hbmTy0_1 i
  | 2 => hbmTy0_2 i
  | _ => ⟨S32x1000000, .f32⟩

abbrev bufTy : (tb : Table) → Fin (tcTables nBuf tb) → BufTy
  | .hbm, ⟨i, _⟩ => hbmTy i
  | _, _ => ⟨S32x1000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_cst_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_2 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c : Ref sig .tc := ⟨.hbm, 19, rfl⟩
abbrev main_c_3 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_4 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_c_5 : Ref sig .tc := ⟨.hbm, 35, rfl⟩
abbrev main_v27 : Ref sig .tc := ⟨.hbm, 36, rfl⟩
abbrev main_v28 : Ref sig .tc := ⟨.hbm, 37, rfl⟩
abbrev main_c_6 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_c_7 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_call0_v0 : Ref sig .tc := ⟨.hbm, 47, rfl⟩
abbrev main_call0_c : Ref sig .tc := ⟨.hbm, 48, rfl⟩
abbrev main_call0_v1 : Ref sig .tc := ⟨.hbm, 49, rfl⟩
abbrev main_call0_v2 : Ref sig .tc := ⟨.hbm, 50, rfl⟩
abbrev main_call0_v3 : Ref sig .tc := ⟨.hbm, 51, rfl⟩
abbrev main_call0_v4 : Ref sig .tc := ⟨.hbm, 52, rfl⟩
abbrev main_call0_v5 : Ref sig .tc := ⟨.hbm, 53, rfl⟩
abbrev main_call0_v6 : Ref sig .tc := ⟨.hbm, 54, rfl⟩
abbrev main_call0_c_0 : Ref sig .tc := ⟨.hbm, 55, rfl⟩
abbrev main_call0_v7 : Ref sig .tc := ⟨.hbm, 56, rfl⟩
abbrev main_call0_v8 : Ref sig .tc := ⟨.hbm, 57, rfl⟩
abbrev main_call0_c_1 : Ref sig .tc := ⟨.hbm, 58, rfl⟩
abbrev main_call0_v9 : Ref sig .tc := ⟨.hbm, 59, rfl⟩
abbrev main_call0_v10 : Ref sig .tc := ⟨.hbm, 60, rfl⟩
abbrev main_call0_v11 : Ref sig .tc := ⟨.hbm, 61, rfl⟩
abbrev main_call0_v12 : Ref sig .tc := ⟨.hbm, 62, rfl⟩
abbrev main_call0_v13 : Ref sig .tc := ⟨.hbm, 63, rfl⟩
abbrev main_call0_c_2 : Ref sig .tc := ⟨.hbm, 64, rfl⟩
abbrev main_call0_v14 : Ref sig .tc := ⟨.hbm, 65, rfl⟩
abbrev main_call0_v15 : Ref sig .tc := ⟨.hbm, 66, rfl⟩
abbrev main_call0_c_3 : Ref sig .tc := ⟨.hbm, 67, rfl⟩
abbrev main_call0_v16 : Ref sig .tc := ⟨.hbm, 68, rfl⟩
abbrev main_call0_v17 : Ref sig .tc := ⟨.hbm, 69, rfl⟩
abbrev main_call0_v18 : Ref sig .tc := ⟨.hbm, 70, rfl⟩
abbrev main_call0_v19 : Ref sig .tc := ⟨.hbm, 71, rfl⟩
abbrev main_call0_v20 : Ref sig .tc := ⟨.hbm, 72, rfl⟩
abbrev main_call0_c_4 : Ref sig .tc := ⟨.hbm, 73, rfl⟩
abbrev main_call0_v21 : Ref sig .tc := ⟨.hbm, 74, rfl⟩
abbrev main_call0_v22 : Ref sig .tc := ⟨.hbm, 75, rfl⟩
abbrev main_call0_c_5 : Ref sig .tc := ⟨.hbm, 76, rfl⟩
abbrev main_call0_v23 : Ref sig .tc := ⟨.hbm, 77, rfl⟩
abbrev main_call0_v24 : Ref sig .tc := ⟨.hbm, 78, rfl⟩
abbrev main_call0_v25 : Ref sig .tc := ⟨.hbm, 79, rfl⟩
abbrev main_call0_v26 : Ref sig .tc := ⟨.hbm, 80, rfl⟩
abbrev main_call0_v27 : Ref sig .tc := ⟨.hbm, 81, rfl⟩
abbrev main_call0_c_6 : Ref sig .tc := ⟨.hbm, 82, rfl⟩
abbrev main_call0_v28 : Ref sig .tc := ⟨.hbm, 83, rfl⟩
abbrev main_call0_v29 : Ref sig .tc := ⟨.hbm, 84, rfl⟩
abbrev main_call0_c_7 : Ref sig .tc := ⟨.hbm, 85, rfl⟩
abbrev main_call0_v30 : Ref sig .tc := ⟨.hbm, 86, rfl⟩
abbrev main_call0_v31 : Ref sig .tc := ⟨.hbm, 87, rfl⟩
abbrev main_call0_v32 : Ref sig .tc := ⟨.hbm, 88, rfl⟩
abbrev main_call0_v33 : Ref sig .tc := ⟨.hbm, 89, rfl⟩
abbrev main_call0_v34 : Ref sig .tc := ⟨.hbm, 90, rfl⟩
abbrev main_call0_v35 : Ref sig .tc := ⟨.hbm, 91, rfl⟩
abbrev main_call0_v36 : Ref sig .tc := ⟨.hbm, 92, rfl⟩
abbrev main_call0_v37 : Ref sig .tc := ⟨.hbm, 93, rfl⟩
abbrev main_call0_c_8 : Ref sig .tc := ⟨.hbm, 94, rfl⟩
abbrev main_call0_v38 : Ref sig .tc := ⟨.hbm, 95, rfl⟩
abbrev main_call0_v39 : Ref sig .tc := ⟨.hbm, 96, rfl⟩
abbrev main_call0_v40 : Ref sig .tc := ⟨.hbm, 97, rfl⟩
abbrev main_call0_c_9 : Ref sig .tc := ⟨.hbm, 98, rfl⟩
abbrev main_call0_v41 : Ref sig .tc := ⟨.hbm, 99, rfl⟩
abbrev main_call0_v42 : Ref sig .tc := ⟨.hbm, 100, rfl⟩
abbrev main_call0_c_10 : Ref sig .tc := ⟨.hbm, 101, rfl⟩
abbrev main_call0_v43 : Ref sig .tc := ⟨.hbm, 102, rfl⟩
abbrev main_call0_v44 : Ref sig .tc := ⟨.hbm, 103, rfl⟩
abbrev main_call0_v45 : Ref sig .tc := ⟨.hbm, 104, rfl⟩
abbrev main_call0_v46 : Ref sig .tc := ⟨.hbm, 105, rfl⟩
abbrev main_call0_v47 : Ref sig .tc := ⟨.hbm, 106, rfl⟩
abbrev main_call0_c_11 : Ref sig .tc := ⟨.hbm, 107, rfl⟩
abbrev main_call0_v48 : Ref sig .tc := ⟨.hbm, 108, rfl⟩
abbrev main_call0_v49 : Ref sig .tc := ⟨.hbm, 109, rfl⟩
abbrev main_call0_c_12 : Ref sig .tc := ⟨.hbm, 110, rfl⟩
abbrev main_call0_v50 : Ref sig .tc := ⟨.hbm, 111, rfl⟩
abbrev main_call0_v51 : Ref sig .tc := ⟨.hbm, 112, rfl⟩
abbrev main_call0_v52 : Ref sig .tc := ⟨.hbm, 113, rfl⟩
abbrev main_call0_v53 : Ref sig .tc := ⟨.hbm, 114, rfl⟩
abbrev main_call0_v54 : Ref sig .tc := ⟨.hbm, 115, rfl⟩
abbrev main_call0_c_13 : Ref sig .tc := ⟨.hbm, 116, rfl⟩
abbrev main_call0_v55 : Ref sig .tc := ⟨.hbm, 117, rfl⟩
abbrev main_call0_v56 : Ref sig .tc := ⟨.hbm, 118, rfl⟩
abbrev main_call0_c_14 : Ref sig .tc := ⟨.hbm, 119, rfl⟩
abbrev main_call0_v57 : Ref sig .tc := ⟨.hbm, 120, rfl⟩
abbrev main_call0_v58 : Ref sig .tc := ⟨.hbm, 121, rfl⟩
abbrev main_call0_v59 : Ref sig .tc := ⟨.hbm, 122, rfl⟩
abbrev main_call0_v60 : Ref sig .tc := ⟨.hbm, 123, rfl⟩
abbrev main_call0_v61 : Ref sig .tc := ⟨.hbm, 124, rfl⟩
abbrev main_call0_c_15 : Ref sig .tc := ⟨.hbm, 125, rfl⟩
abbrev main_call0_v62 : Ref sig .tc := ⟨.hbm, 126, rfl⟩
abbrev main_call0_v63 : Ref sig .tc := ⟨.hbm, 127, rfl⟩
abbrev main_call0_c_16 : Ref sig .tc := ⟨.hbm, 128, rfl⟩
abbrev main_call0_v64 : Ref sig .tc := ⟨.hbm, 129, rfl⟩
abbrev main_call0_v65 : Ref sig .tc := ⟨.hbm, 130, rfl⟩
abbrev main_call0_v66 : Ref sig .tc := ⟨.hbm, 131, rfl⟩
abbrev main_call0_v67 : Ref sig .tc := ⟨.hbm, 132, rfl⟩
abbrev main_call0_v68 : Ref sig .tc := ⟨.hbm, 133, rfl⟩
abbrev main_call0_v69 : Ref sig .tc := ⟨.hbm, 134, rfl⟩
abbrev main_call0_v70 : Ref sig .tc := ⟨.hbm, 135, rfl⟩
abbrev main_call0_v71 : Ref sig .tc := ⟨.hbm, 136, rfl⟩
abbrev main_call0_c_17 : Ref sig .tc := ⟨.hbm, 137, rfl⟩
abbrev main_call0_v72 : Ref sig .tc := ⟨.hbm, 138, rfl⟩
abbrev main_call0_v73 : Ref sig .tc := ⟨.hbm, 139, rfl⟩
abbrev main_call0_v74 : Ref sig .tc := ⟨.hbm, 140, rfl⟩
abbrev main_call0_c_18 : Ref sig .tc := ⟨.hbm, 141, rfl⟩
abbrev main_call0_v75 : Ref sig .tc := ⟨.hbm, 142, rfl⟩
abbrev main_call0_v76 : Ref sig .tc := ⟨.hbm, 143, rfl⟩
abbrev main_call0_c_19 : Ref sig .tc := ⟨.hbm, 144, rfl⟩
abbrev main_call0_v77 : Ref sig .tc := ⟨.hbm, 145, rfl⟩
abbrev main_call0_v78 : Ref sig .tc := ⟨.hbm, 146, rfl⟩
abbrev main_call0_v79 : Ref sig .tc := ⟨.hbm, 147, rfl⟩
abbrev main_call0_v80 : Ref sig .tc := ⟨.hbm, 148, rfl⟩
abbrev main_call0_v81 : Ref sig .tc := ⟨.hbm, 149, rfl⟩
abbrev main_call0_c_20 : Ref sig .tc := ⟨.hbm, 150, rfl⟩
abbrev main_call0_v82 : Ref sig .tc := ⟨.hbm, 151, rfl⟩
abbrev main_call0_v83 : Ref sig .tc := ⟨.hbm, 152, rfl⟩
abbrev main_call0_c_21 : Ref sig .tc := ⟨.hbm, 153, rfl⟩
abbrev main_call0_v84 : Ref sig .tc := ⟨.hbm, 154, rfl⟩
abbrev main_call0_v85 : Ref sig .tc := ⟨.hbm, 155, rfl⟩
abbrev main_call0_v86 : Ref sig .tc := ⟨.hbm, 156, rfl⟩
abbrev main_call0_v87 : Ref sig .tc := ⟨.hbm, 157, rfl⟩
abbrev main_call0_v88 : Ref sig .tc := ⟨.hbm, 158, rfl⟩
abbrev main_call0_c_22 : Ref sig .tc := ⟨.hbm, 159, rfl⟩
abbrev main_call0_v89 : Ref sig .tc := ⟨.hbm, 160, rfl⟩
abbrev main_call0_v90 : Ref sig .tc := ⟨.hbm, 161, rfl⟩
abbrev main_call0_c_23 : Ref sig .tc := ⟨.hbm, 162, rfl⟩
abbrev main_call0_v91 : Ref sig .tc := ⟨.hbm, 163, rfl⟩
abbrev main_call0_v92 : Ref sig .tc := ⟨.hbm, 164, rfl⟩
abbrev main_call0_v93 : Ref sig .tc := ⟨.hbm, 165, rfl⟩
abbrev main_call0_v94 : Ref sig .tc := ⟨.hbm, 166, rfl⟩
abbrev main_call0_v95 : Ref sig .tc := ⟨.hbm, 167, rfl⟩
abbrev main_call0_c_24 : Ref sig .tc := ⟨.hbm, 168, rfl⟩
abbrev main_call0_v96 : Ref sig .tc := ⟨.hbm, 169, rfl⟩
abbrev main_call0_v97 : Ref sig .tc := ⟨.hbm, 170, rfl⟩
abbrev main_call0_c_25 : Ref sig .tc := ⟨.hbm, 171, rfl⟩
abbrev main_call0_v98 : Ref sig .tc := ⟨.hbm, 172, rfl⟩
abbrev main_call0_v99 : Ref sig .tc := ⟨.hbm, 173, rfl⟩
abbrev main_call0_v100 : Ref sig .tc := ⟨.hbm, 174, rfl⟩
abbrev main_call0_v101 : Ref sig .tc := ⟨.hbm, 175, rfl⟩
abbrev main_call0_v102 : Ref sig .tc := ⟨.hbm, 176, rfl⟩
abbrev main_call0_v103 : Ref sig .tc := ⟨.hbm, 177, rfl⟩
abbrev main_call0_v104 : Ref sig .tc := ⟨.hbm, 178, rfl⟩
abbrev main_call0_v105 : Ref sig .tc := ⟨.hbm, 179, rfl⟩
abbrev main_call0_c_26 : Ref sig .tc := ⟨.hbm, 180, rfl⟩
abbrev main_call0_v106 : Ref sig .tc := ⟨.hbm, 181, rfl⟩
abbrev main_call0_v107 : Ref sig .tc := ⟨.hbm, 182, rfl⟩
abbrev main_call0_v108 : Ref sig .tc := ⟨.hbm, 183, rfl⟩
abbrev main_call0_c_27 : Ref sig .tc := ⟨.hbm, 184, rfl⟩
abbrev main_call0_v109 : Ref sig .tc := ⟨.hbm, 185, rfl⟩
abbrev main_call0_v110 : Ref sig .tc := ⟨.hbm, 186, rfl⟩
abbrev main_call0_c_28 : Ref sig .tc := ⟨.hbm, 187, rfl⟩
abbrev main_call0_v111 : Ref sig .tc := ⟨.hbm, 188, rfl⟩
abbrev main_call0_v112 : Ref sig .tc := ⟨.hbm, 189, rfl⟩
abbrev main_call0_v113 : Ref sig .tc := ⟨.hbm, 190, rfl⟩
abbrev main_call0_v114 : Ref sig .tc := ⟨.hbm, 191, rfl⟩
abbrev main_call0_v115 : Ref sig .tc := ⟨.hbm, 192, rfl⟩
abbrev main_call0_c_29 : Ref sig .tc := ⟨.hbm, 193, rfl⟩
abbrev main_call0_v116 : Ref sig .tc := ⟨.hbm, 194, rfl⟩
abbrev main_call0_v117 : Ref sig .tc := ⟨.hbm, 195, rfl⟩
abbrev main_call0_c_30 : Ref sig .tc := ⟨.hbm, 196, rfl⟩
abbrev main_call0_v118 : Ref sig .tc := ⟨.hbm, 197, rfl⟩
abbrev main_call0_v119 : Ref sig .tc := ⟨.hbm, 198, rfl⟩
abbrev main_call0_v120 : Ref sig .tc := ⟨.hbm, 199, rfl⟩
abbrev main_call0_v121 : Ref sig .tc := ⟨.hbm, 200, rfl⟩
abbrev main_call0_v122 : Ref sig .tc := ⟨.hbm, 201, rfl⟩
abbrev main_call0_c_31 : Ref sig .tc := ⟨.hbm, 202, rfl⟩
abbrev main_call0_v123 : Ref sig .tc := ⟨.hbm, 203, rfl⟩
abbrev main_call0_v124 : Ref sig .tc := ⟨.hbm, 204, rfl⟩
abbrev main_call0_c_32 : Ref sig .tc := ⟨.hbm, 205, rfl⟩
abbrev main_call0_v125 : Ref sig .tc := ⟨.hbm, 206, rfl⟩
abbrev main_call0_v126 : Ref sig .tc := ⟨.hbm, 207, rfl⟩
abbrev main_call0_v127 : Ref sig .tc := ⟨.hbm, 208, rfl⟩
abbrev main_call0_v128 : Ref sig .tc := ⟨.hbm, 209, rfl⟩
abbrev main_call0_v129 : Ref sig .tc := ⟨.hbm, 210, rfl⟩
abbrev main_call0_c_33 : Ref sig .tc := ⟨.hbm, 211, rfl⟩
abbrev main_call0_v130 : Ref sig .tc := ⟨.hbm, 212, rfl⟩
abbrev main_call0_v131 : Ref sig .tc := ⟨.hbm, 213, rfl⟩
abbrev main_call0_c_34 : Ref sig .tc := ⟨.hbm, 214, rfl⟩
abbrev main_call0_v132 : Ref sig .tc := ⟨.hbm, 215, rfl⟩
abbrev main_call0_v133 : Ref sig .tc := ⟨.hbm, 216, rfl⟩
abbrev main_call0_v134 : Ref sig .tc := ⟨.hbm, 217, rfl⟩
abbrev main_call0_v135 : Ref sig .tc := ⟨.hbm, 218, rfl⟩
abbrev main_call0_v136 : Ref sig .tc := ⟨.hbm, 219, rfl⟩
abbrev main_call0_v137 : Ref sig .tc := ⟨.hbm, 220, rfl⟩
abbrev main_call0_v138 : Ref sig .tc := ⟨.hbm, 221, rfl⟩
abbrev main_call0_v139 : Ref sig .tc := ⟨.hbm, 222, rfl⟩
abbrev main_call0_c_35 : Ref sig .tc := ⟨.hbm, 223, rfl⟩
abbrev main_call0_v140 : Ref sig .tc := ⟨.hbm, 224, rfl⟩
abbrev main_call0_v141 : Ref sig .tc := ⟨.hbm, 225, rfl⟩
abbrev main_call0_v142 : Ref sig .tc := ⟨.hbm, 226, rfl⟩
abbrev main_call0_c_36 : Ref sig .tc := ⟨.hbm, 227, rfl⟩
abbrev main_call0_v143 : Ref sig .tc := ⟨.hbm, 228, rfl⟩
abbrev main_call0_v144 : Ref sig .tc := ⟨.hbm, 229, rfl⟩
abbrev main_call0_c_37 : Ref sig .tc := ⟨.hbm, 230, rfl⟩
abbrev main_call0_v145 : Ref sig .tc := ⟨.hbm, 231, rfl⟩
abbrev main_call0_v146 : Ref sig .tc := ⟨.hbm, 232, rfl⟩
abbrev main_call0_v147 : Ref sig .tc := ⟨.hbm, 233, rfl⟩
abbrev main_call0_v148 : Ref sig .tc := ⟨.hbm, 234, rfl⟩
abbrev main_call0_v149 : Ref sig .tc := ⟨.hbm, 235, rfl⟩
abbrev main_call0_c_38 : Ref sig .tc := ⟨.hbm, 236, rfl⟩
abbrev main_call0_v150 : Ref sig .tc := ⟨.hbm, 237, rfl⟩
abbrev main_call0_v151 : Ref sig .tc := ⟨.hbm, 238, rfl⟩
abbrev main_call0_c_39 : Ref sig .tc := ⟨.hbm, 239, rfl⟩
abbrev main_call0_v152 : Ref sig .tc := ⟨.hbm, 240, rfl⟩
abbrev main_call0_v153 : Ref sig .tc := ⟨.hbm, 241, rfl⟩
abbrev main_call0_v154 : Ref sig .tc := ⟨.hbm, 242, rfl⟩
abbrev main_call0_v155 : Ref sig .tc := ⟨.hbm, 243, rfl⟩
abbrev main_call0_v156 : Ref sig .tc := ⟨.hbm, 244, rfl⟩
abbrev main_call0_c_40 : Ref sig .tc := ⟨.hbm, 245, rfl⟩
abbrev main_call0_v157 : Ref sig .tc := ⟨.hbm, 246, rfl⟩
abbrev main_call0_v158 : Ref sig .tc := ⟨.hbm, 247, rfl⟩
abbrev main_call0_c_41 : Ref sig .tc := ⟨.hbm, 248, rfl⟩
abbrev main_call0_v159 : Ref sig .tc := ⟨.hbm, 249, rfl⟩
abbrev main_call0_v160 : Ref sig .tc := ⟨.hbm, 250, rfl⟩
abbrev main_call0_v161 : Ref sig .tc := ⟨.hbm, 251, rfl⟩
abbrev main_call0_v162 : Ref sig .tc := ⟨.hbm, 252, rfl⟩
abbrev main_call0_v163 : Ref sig .tc := ⟨.hbm, 253, rfl⟩
abbrev main_call0_c_42 : Ref sig .tc := ⟨.hbm, 254, rfl⟩
abbrev main_call0_v164 : Ref sig .tc := ⟨.hbm, 255, rfl⟩
abbrev main_call0_v165 : Ref sig .tc := ⟨.hbm, 256, rfl⟩
abbrev main_call0_c_43 : Ref sig .tc := ⟨.hbm, 257, rfl⟩
abbrev main_call0_v166 : Ref sig .tc := ⟨.hbm, 258, rfl⟩
abbrev main_call0_v167 : Ref sig .tc := ⟨.hbm, 259, rfl⟩
abbrev main_call0_v168 : Ref sig .tc := ⟨.hbm, 260, rfl⟩
abbrev main_call0_v169 : Ref sig .tc := ⟨.hbm, 261, rfl⟩
abbrev main_call0_v170 : Ref sig .tc := ⟨.hbm, 262, rfl⟩
abbrev main_v36_0 : Ref sig .tc := ⟨.hbm, 263, rfl⟩
abbrev main_call0_v172 : Ref sig .tc := ⟨.hbm, 264, rfl⟩
abbrev main_call0_v173 : Ref sig .tc := ⟨.hbm, 265, rfl⟩
abbrev main_call0_c_44 : Ref sig .tc := ⟨.hbm, 266, rfl⟩
abbrev main_call0_v174 : Ref sig .tc := ⟨.hbm, 267, rfl⟩
abbrev main_v36_1 : Ref sig .tc := ⟨.hbm, 268, rfl⟩
abbrev main_v37 : Ref sig .tc := ⟨.hbm, 269, rfl⟩
abbrev main_c_8 : Ref sig .tc := ⟨.hbm, 270, rfl⟩
abbrev main_v38 : Ref sig .tc := ⟨.hbm, 271, rfl⟩
abbrev main_v39 : Ref sig .tc := ⟨.hbm, 272, rfl⟩
abbrev main_c_9 : Ref sig .tc := ⟨.hbm, 273, rfl⟩
abbrev main_v40 : Ref sig .tc := ⟨.hbm, 274, rfl⟩
abbrev main_v41 : Ref sig .tc := ⟨.hbm, 275, rfl⟩
abbrev main_v42 : Ref sig .tc := ⟨.hbm, 276, rfl⟩
abbrev main_cst_10 : Ref sig .tc := ⟨.hbm, 277, rfl⟩
abbrev main_v43 : Ref sig .tc := ⟨.hbm, 278, rfl⟩
abbrev main_v44 : Ref sig .tc := ⟨.hbm, 279, rfl⟩
abbrev main_cst_11 : Ref sig .tc := ⟨.hbm, 280, rfl⟩
abbrev main_v45 : Ref sig .tc := ⟨.hbm, 281, rfl⟩
abbrev main_v46 : Ref sig .tc := ⟨.hbm, 282, rfl⟩
abbrev main_v47 : Ref sig .tc := ⟨.hbm, 283, rfl⟩
abbrev main_v48 : Ref sig .tc := ⟨.hbm, 284, rfl⟩
abbrev main_v49 : Ref sig .tc := ⟨.hbm, 285, rfl⟩
abbrev main_v50 : Ref sig .tc := ⟨.hbm, 286, rfl⟩
abbrev main_v51 : Ref sig .tc := ⟨.hbm, 287, rfl⟩
abbrev main_call1_v0 : Ref sig .tc := ⟨.hbm, 288, rfl⟩
abbrev main_call1_cst : Ref sig .tc := ⟨.hbm, 289, rfl⟩
abbrev main_call1_c : Ref sig .tc := ⟨.hbm, 290, rfl⟩
abbrev main_call1_v1_0 : Ref sig .tc := ⟨.hbm, 291, rfl⟩
abbrev main_v52 : Ref sig .tc := ⟨.hbm, 292, rfl⟩
abbrev main_v53 : Ref sig .tc := ⟨.hbm, 293, rfl⟩

abbrev nD : Nat := 1
abbrev τ : Topo := Topo.v7x

variable {F : FTy → Type} [FloatOps F]
-- ==== Proof.Model.lean ====
/- The kernel function in compact form: one program for a chunk of 256 columns, run 64 times over, in the place of
   the printed text's unrolled copies. `body_eq` says that the printed kernel function is that program. -/
module

public import proofs.«01_k».proof.Proof.Gen.Kernel
public import Idealize.ShloMosaic.Lib.Tactic

@[expose] public section

noncomputable section

namespace Cert.Sample

open Cert.Kernel Cert.Kernel.Gen
open Idealize.ShloMosaic Idealize.ShloMosaic.TcCoe Idealize.SL.Sem

variable {F : FTy → Type} [FloatOps F]

/-- A 32-bit word at every lane. -/
abbrev bc (w : BitVec 32) : IVec S32x256 32 := broadcast S32x256 w

/-! ## What a chunk computes -/

/-- The kernel's threefry words: the hash of the counter `(0, i)` under the key `(0, 42)`, its two words crossed,
    from `x = i + 42` (the second counter word with its key already added). Five groups of four rounds
    (`x0 += x1`, then `x1` rotated and crossed with `x0`), a key injection after each. -/
def bits (x : IVec S32x256 32) : IVec S32x256 32 :=
  let a1 := addi (bc 0#32) x
  let b1 := xori (ori (shli x (bc 13#32)) (shrui x (bc 19#32))) a1
  let a2 := addi a1 b1
  let b2 := xori (ori (shli b1 (bc 15#32)) (shrui b1 (bc 17#32))) a2
  let a3 := addi a2 b2
  let b3 := xori (ori (shli b2 (bc 26#32)) (shrui b2 (bc 6#32))) a3
  let a4 := addi a3 b3
  let b4 := xori (ori (shli b3 (bc 6#32)) (shrui b3 (bc 26#32))) a4
  let c0 := addi a4 (bc 42#32)
  let d0 := addi (addi b4 (bc 466689008#32)) (bc 1#32)
  let a5 := addi c0 d0
  let b5 := xori (ori (shli d0 (bc 17#32)) (shrui d0 (bc 15#32))) a5
  let a6 := addi a5 b5
  let b6 := xori (ori (shli b5 (bc 29#32)) (shrui b5 (bc 3#32))) a6
  let a7 := addi a6 b6
  let b7 := xori (ori (shli b6 (bc 16#32)) (shrui b6 (bc 16#32))) a7
  let a8 := addi a7 b7
  let b8 := xori (ori (shli b7 (bc 24#32)) (shrui b7 (bc 8#32))) a8
  let c1 := addi a8 (bc 466689008#32)
  let d1 := addi (addi b8 (bc 0#32)) (bc 2#32)
  let a9 := addi c1 d1
  let b9 := xori (ori (shli d1 (bc 13#32)) (shrui d1 (bc 19#32))) a9
  let a10 := addi a9 b9
  let b10 := xori (ori (shli b9 (bc 15#32)) (shrui b9 (bc 17#32))) a10
  let a11 := addi a10 b10
  let b11 := xori (ori (shli b10 (bc 26#32)) (shrui b10 (bc 6#32))) a11
  let a12 := addi a11 b11
  let b12 := xori (ori (shli b11 (bc 6#32)) (shrui b11 (bc 26#32))) a12
  let c2 := addi a12 (bc 0#32)
  let d2 := addi (addi b12 (bc 42#32)) (bc 3#32)
  let a13 := addi c2 d2
  let b13 := xori (ori (shli d2 (bc 17#32)) (shrui d2 (bc 15#32))) a13
  let a14 := addi a13 b13
  let b14 := xori (ori (shli b13 (bc 29#32)) (shrui b13 (bc 3#32))) a14
  let a15 := addi a14 b14
  let b15 := xori (ori (shli b14 (bc 16#32)) (shrui b14 (bc 16#32))) a15
  let a16 := addi a15 b15
  let b16 := xori (ori (shli b15 (bc 24#32)) (shrui b15 (bc 8#32))) a16
  let c3 := addi a16 (bc 42#32)
  let d3 := addi (addi b16 (bc 466689008#32)) (bc 4#32)
  let a17 := addi c3 d3
  let b17 := xori (ori (shli d3 (bc 13#32)) (shrui d3 (bc 19#32))) a17
  let a18 := addi a17 b17
  let b18 := xori (ori (shli b17 (bc 15#32)) (shrui b17 (bc 17#32))) a18
  let a19 := addi a18 b18
  let b19 := xori (ori (shli b18 (bc 26#32)) (shrui b18 (bc 6#32))) a19
  let a20 := addi a19 b19
  let b20 := xori (ori (shli b19 (bc 6#32)) (shrui b19 (bc 26#32))) a20
  let c4 := addi a20 (bc 466689008#32)
  let d4 := addi (addi b20 (bc 0#32)) (bc 5#32)
  xori c4 d4

/-- The uniform draw of a word: its upper 23 bits as a float of `[1, 2)`, less one, at least the least normal
    float. -/
def unif (w : IVec S32x256 32) : FVec F S32x256 .f32 :=
  maximumf (subf (bitcastToFloat .f32 (ori (shrui w (bc 9#32)) (bc 1065353216#32)))
    (broadcast S32x256 (Scalar.ofBits .f32 0x3F800000#32))) (broadcast S32x256 (Scalar.ofBits .f32 0x00800000#32))

/-- The chunk's scores: the logits with the Gumbel noise of the words `x` added. -/
def score (x : IVec S32x256 32) (X : Vec F S32x256 .f32) : FVec F S32x256 .f32 :=
  subf X (log (subf (broadcast S32x256 (Scalar.ofBits .f32 0x00000000#32)) (log (unif (bits x)))))

/-- The lane number. -/
def lane : IVec S32x256 32 := iota .tc S32x256 32 [1] iota_S32x256_d1_w32
/-- The row's first flat index. -/
def rowBase : IVec S32x256 32 := muli (iota .tc S32x256 32 [0] iota_S32x256_d0_w32) (bc 1000000#32)
/-- Row base plus lane. -/
def base : IVec S32x256 32 := addi rowBase lane

/-- The first column of chunk `c` of the block at word `k`. -/
def off (k : BitVec 32) (c : Nat) : BitVec 32 := Scalar.addi (Scalar.muli k 16384#32) (BitVec.ofNat 32 (256 * c))

/-- The flat indices of the chunk's elements, 42 added. -/
def flat42 (k : BitVec 32) (c : Nat) : IVec S32x256 32 := addi base (bc (Scalar.addi (off k c) 42#32))

/-- Where a chunk's score beats the running maximum `A`. -/
def beats (k : BitVec 32) (c : Nat) (X A : Vec F S32x256 .f32) : IVec S32x256 1 :=
  cmpf .ogt (score (flat42 k c) X) A
/-- The same, of the columns that the array has. -/
def beatsM (k : BitVec 32) (c : Nat) (X A : Vec F S32x256 .f32) : IVec S32x256 1 :=
  andi (beats k c X A) (cmpi .slt lane (bc (Scalar.subi 1000000#32 (off k c))))

/-! ## The programs -/

section Progs
variable (arg1 : Memref sig .tc .vmem S32x16384 .f32) (arg2 : Memref sig .tc .vmem S32x1 .i32)
  (arg3 : Memref sig .tc .vmem S32x256 .f32) (arg4 : Memref sig .tc .vmem S32x256 .i32)

/-- The whole of a `[32, 256]` buffer. -/
abbrev rw : Rect S32x256 := Rect.unit (s := S32x256) ![0, 0] S32x256.size inb_S32x256_S32x256_0_0

/-- A chunk of 256 columns lies within the block. -/
theorem inb_chunk (c : Nat) : ∀ a, (![0, 256 * (c % 64)] : Fin 2 → Nat) a + S32x256.size a ≤ S32x16384.size a := by
  intro a
  have : c % 64 < 64 := Nat.mod_lt _ (by decide)
  fin_cases a
  · exact le_refl 32
  · show 256 * (c % 64) + 256 ≤ 16384
    omega

/-- Chunk `c`'s columns of the block. -/
abbrev rc (c : Nat) : Rect S32x16384 := Rect.unit (s := S32x16384) ![0, 256 * (c % 64)] S32x256.size (inb_chunk c)

/-- A chunk: `p` says where its score is taken. -/
def chunk (p : BitVec 32 → Nat → Vec F S32x256 .f32 → Vec F S32x256 .f32 → IVec S32x256 1) (k : BitVec 32) (c : Nat) :
    Prog (TpuEff nD τ sig (Elt F) Λ₀ .tc) PUnit := do
  let X : Vec F S32x256 .f32 ← Prog.lift (.load arg1 (rc c).toLoadRect (View.loadsAt_vmem h_S32x256))
  let A : Vec F S32x256 .f32 ← Prog.lift (.load arg3 rw.toLoadRect (View.loadsAt_vmem h_S32x256))
  let _A : Vec F S32x256 .f32 ← Prog.lift (.load arg3 rw.toLoadRect (View.loadsAt_vmem h_S32x256))
  Prog.lift (.store arg3 rw (shapeCast S32x256 (select (p k c X A) (score (flat42 k c) X) A) shapeCasts_S32x256_S32x256)
    Finset.univ (View.stores_vmem_bits_univ h_S32x256 rfl) (.inl rfl))
  let C : Vec F S32x256 .i32 ← Prog.lift (.load arg4 rw.toLoadRect (View.loadsAt_vmem h_S32x256))
  let _C : Vec F S32x256 .i32 ← Prog.lift (.load arg4 rw.toLoadRect (View.loadsAt_vmem h_S32x256))
  Prog.lift (.store arg4 rw (shapeCast S32x256 (select (p k c X A) (flat42 k c) C) shapeCasts_S32x256_S32x256)
    Finset.univ (View.stores_vmem_bits_univ h_S32x256 rfl) (.inl rfl))

/-- `n` chunks from chunk `c` on, then `κ`. -/
def chunks (p : BitVec 32 → Nat → Vec F S32x256 .f32 → Vec F S32x256 .f32 → IVec S32x256 1) (k : BitVec 32)
    (κ : Prog (TpuEff nD τ sig (Elt F) Λ₀ .tc) PUnit) : Nat → Nat → Prog (TpuEff nD τ sig (Elt F) Λ₀ .tc) PUnit
  | 0, _ => κ
  | n + 1, c => chunk arg1 arg3 arg4 p k c >>= fun _ => chunks p k κ n (c + 1)

/-- The first point's reset of the accumulators. -/
def initP : Prog (TpuEff nD τ sig (Elt F) Λ₀ .tc) PUnit := do
  let _A : Vec F S32x256 .f32 ← Prog.lift (.load arg3 rw.toLoadRect (View.loadsAt_vmem h_S32x256))
  Prog.lift (.store arg3 rw (shapeCast S32x256 (broadcast S32x256 (Scalar.ofBits (F := F) .f32 0xFF800000#32)) shapeCasts_S32x256_S32x256)
    Finset.univ (View.stores_vmem_bits_univ h_S32x256 rfl) (.inl rfl))
  let _C : Vec F S32x256 .i32 ← Prog.lift (.load arg4 rw.toLoadRect (View.loadsAt_vmem h_S32x256))
  Prog.lift (.store arg4 rw (shapeCast S32x256 (bc 0#32) shapeCasts_S32x256_S32x256)
    Finset.univ (View.stores_vmem_bits_univ h_S32x256 rfl) (.inl rfl))
  pure ⟨⟩

/-- The result from the final accumulators: per row the least column among the lanes that hold the row's maximum. -/
def pick (A : Vec F S32x256 .f32) (C : Vec F S32x256 .i32) : IVec S32x1 32 :=
  shapeCast S32x1 (multiReductionI .minsi [1] S32
    (select (cmpf .oeq A (broadcastTo S32x256 (shapeCast S32x1
        (multiReduction .maximumf [1] S32 A 0xFF800000#32 reduces_S32x256_S32 (.inl rfl) rfl) shapeCasts_S32_S32x1)
        broadcasts_S32x1_S32x256))
      (subi (subi C rowBase) (bc 42#32)) (bc 1073741824#32))
    2147483647#32 reduces_S32x256_S32 rfl) shapeCasts_S32_S32x1

/-- The last point's reduction. -/
def finalP : Prog (TpuEff nD τ sig (Elt F) Λ₀ .tc) PUnit := do
  let A : Vec F S32x256 .f32 ← Prog.lift (.load arg3 rw.toLoadRect (View.loadsAt_vmem h_S32x256))
  let C : Vec F S32x256 .i32 ← Prog.lift (.load arg4 rw.toLoadRect (View.loadsAt_vmem h_S32x256))
  let _O : Vec F S32x1 .i32 ← Prog.lift (.load arg2 (Rect.unit (s := S32x1) ![0, 0] S32x1.size inb_S32x1_S32x1_0_0).toLoadRect (View.loadsAt_vmem h_S32x1))
  Prog.lift (.store arg2 (Rect.unit (s := S32x1) ![0, 0] S32x1.size inb_S32x1_S32x1_0_0) (pick A C)
    Finset.univ (View.stores_vmem_bits_univ h_S32x1 rfl) (.inl rfl))
  pure ⟨⟩

/-- The kernel function. -/
def body (i : grid0.Coords) : Prog (TpuEff nD τ sig (Elt F) Λ₀ .tc) PUnit := do
  let k : BitVec 32 := BitVec.ofNat 32 (i 0).val
  if _h : Scalar.cmpi .ne (Scalar.extui (Scalar.cmpi .eq k 0#32)) 0#32 = 1#1 then initP arg3 arg4 else pure ⟨⟩
  if _h : Scalar.cmpi .ne (Scalar.extui (Scalar.cmpi .slt k 61#32)) 0#32 = 1#1 then chunks arg1 arg3 arg4 beats k (pure ⟨⟩) 64 0 else pure ⟨⟩
  if _h : k0_cond3 i = 1#1 then chunks arg1 arg3 arg4 beatsM k (finalP arg2 arg3 arg4) 64 0 else pure ⟨⟩
  pure ⟨⟩

end Progs
end Cert.Sample
-- ==== Proof.ModelEq.lean ====
/- The kernel as printed is the compact form of it that the proof runs. -/
module

public import proofs.«01_k».proof.Proof.Model

@[expose] public section

noncomputable section

namespace Cert.Sample

open Cert.Kernel Cert.Kernel.Gen
open Idealize.ShloMosaic Idealize.ShloMosaic.TcCoe Idealize.SL.Sem

variable {F : FTy → Type} [FloatOps F]

/-- The printed kernel function is the compact one. -/
theorem body_eq (i : grid0.Coords) (arg1 : Memref sig .tc .vmem S32x16384 .f32) (harg1 : arg1.IsWhole)
    (arg2 : Memref sig .tc .vmem S32x1 .i32) (harg2 : arg2.IsWhole)
    (arg3 : Memref sig .tc .vmem S32x256 .f32) (harg3 : arg3.IsWhole)
    (arg4 : Memref sig .tc .vmem S32x256 .i32) (harg4 : arg4.IsWhole) :
    cc0__sample_kernel (F := F) i arg1 harg1 arg2 harg2 arg3 harg3 arg4 harg4 = body arg1 arg2 arg3 arg4 i := by
  sl_kernel_rfl

end Cert.Sample
-- ==== Proof.Triples.lean ====
/- What the compact kernel function does to its buffers, chunk by chunk: the accumulators as a fold of a pure step. -/
module

public import proofs.«01_k».proof.Proof.ModelEq
public import proofs.«01_k».proof.Proof.Gen.Kernel.Frame
public import Idealize.ShloMosaic.Lib.Pipeline.Value
public import Idealize.ShloMosaic.Lib.Pipeline.KitQuiescent

@[expose] public section

noncomputable section

namespace Cert.Sample

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The kernel's variants: none. -/
abbrev 𝒱₀ : Variants := Variants.none

/-! ## Loads and stores of owned buffers -/

section Access
variable (c : Dev nD) (E : Set ℕ) {s : Shape} {e : EltTy} (M : Memref sig .tc .vmem s e)

/-- A load through a rectangle reads the owned contents there. -/
theorem load_owns (X : s.Idx → Elt F e) (r : Rect s) (hl : M.view.LoadsAt r.toLoadRect)
    (k : (r.shape.Idx → Elt F e) → Prog (TpuEff nD τ sig (Elt F) Λ₀ .tc) PUnit) (K : PUnit → sProp 𝕄) :
    owns (c : Thread nD τ) M fullShare X
      ⊢ iprop((owns (c : Thread nD τ) M fullShare X -∗ wp frame (wpE (defs₀ (F := F)) 𝒱₀ c none) E (k (View.ld X r)) K)
        -∗ wp frame (wpE (defs₀ (F := F)) 𝒱₀ c none) E (.op (.load M r.toLoadRect hl) k) K) := by
  unfold owns
  iintro ⟨%f, %hf, H⟩ Hk
  subst hf
  iapply (wp_load (defs := defs₀ (F := F)) 𝒱₀ (c : Thread nD τ) none E (S := M.view.set) (q := fullShare) (f := f)
    (View.setOn_subset_set _ _)) $$ H
  iintro H
  iapply Hk
  iexists f
  isplitr; · ipureintro; rfl
  iexact H

/-- An unmasked store of the whole of an owned buffer leaves its payload. -/
theorem store_owns (X : s.Idx → Elt F e) (off : Fin s.rank → Nat) (h0 : off = fun _ => 0)
    (inb : ∀ a, off a + s.size a ≤ s.size a) (w : s.Idx → Elt F e)
    (hx : (M.access (Rect.unit off s.size inb)).Stores Finset.univ)
    (hm : Finset.univ = Finset.univ ∨ ∀ a, (Rect.unit off s.size inb).stride a = 1)
    (k : PUnit → Prog (TpuEff nD τ sig (Elt F) Λ₀ .tc) PUnit) (K : PUnit → sProp 𝕄) :
    owns (c : Thread nD τ) M fullShare X
      ⊢ iprop((owns (c : Thread nD τ) M fullShare w -∗ wp frame (wpE (defs₀ (F := F)) 𝒱₀ c none) E (k ⟨⟩) K)
        -∗ wp frame (wpE (defs₀ (F := F)) 𝒱₀ c none) E (.op (.store M (Rect.unit off s.size inb) w Finset.univ hx hm) k) K) := by
  unfold owns
  iintro ⟨%f, %hf, H⟩ Hk
  iapply (wp_store (defs := defs₀ (F := F)) 𝒱₀ (c : Thread nD τ) none E (S := M.view.set) (f := f) (w := w) (hx := hx) (hm := hm)
    ((View.setOn_subset_set _ _).trans (View.set_slice_subset _ _))) $$ H
  iintro H
  iapply Hk
  iexists (M.view.writes (Elt F) f [⟨Rect.unit off s.size inb, w⟩])
  isplitr
  · ipureintro
    rw [View.read_writes_eq_canon, View.canon_unit_zero h0]
    intro y
    refine ⟨_, List.mem_singleton_self _, ?_⟩
    subst h0
    rw [Rect.mem_set_unit]
    exact fun a => ⟨Nat.zero_le _, by simpa using (y a).isLt⟩
  · iexact H

end Access

/-! ## The pure step of a chunk -/

/-- The two accumulators: per lane the running maximum and the flat index (42 added) that attained it first. -/
abbrev St (F : FTy → Type) : Type := Vec F S32x256 .f32 × IVec S32x256 32

/-- A chunk's rule for where to take its score. -/
abbrev Rule (F : FTy → Type) : Type := BitVec 32 → Nat → Vec F S32x256 .f32 → Vec F S32x256 .f32 → IVec S32x256 1

/-- A chunk's effect on the accumulators, the block holding `X`. -/
def step (p : Rule F) (k : BitVec 32) (X : Vec F S32x16384 .f32) (c : Nat) (a : St F) : St F :=
  (select (p k c (View.ld X (rc c)) a.1) (score (flat42 k c) (View.ld X (rc c))) a.1,
    select (p k c (View.ld X (rc c)) a.1) (flat42 k c) a.2)

/-- `n` chunks from chunk `c` on. -/
def steps (p : Rule F) (k : BitVec 32) (X : Vec F S32x16384 .f32) : Nat → Nat → St F → St F
  | 0, _, a => a
  | n + 1, c, a => steps p k X n (c + 1) (step p k X c a)

/-! ## The triples -/

section Triples
variable (c : Dev nD) (E : Set ℕ)
  (arg1 : Memref sig .tc .vmem S32x16384 .f32) (arg2 : Memref sig .tc .vmem S32x1 .i32)
  (arg3 : Memref sig .tc .vmem S32x256 .f32) (arg4 : Memref sig .tc .vmem S32x256 .i32)

/-- The origin, written out. -/
theorem hz : (![0, 0] : Fin 2 → Nat) = fun _ => 0 := funext fun a => by fin_cases a <;> rfl

/-- What the accumulators' two buffers hold. -/
abbrev accs (a : St F) : sProp 𝕄 :=
  iprop(owns (c : Thread nD τ) arg3 fullShare a.1 ∗ owns (c : Thread nD τ) arg4 fullShare a.2)

/-- One chunk. -/
theorem chunk_triple (p : Rule F) (k : BitVec 32) (j : Nat) (X : Vec F S32x16384 .f32) (a : St F)
    (κ : PUnit → Prog (TpuEff nD τ sig (Elt F) Λ₀ .tc) PUnit) (K : PUnit → sProp 𝕄) :
    iprop(owns (c : Thread nD τ) arg1 fullShare X ∗ accs c arg3 arg4 a)
      ⊢ iprop((owns (c : Thread nD τ) arg1 fullShare X ∗ accs c arg3 arg4 (step p k X j a)
            -∗ wp frame (wpE (defs₀ (F := F)) 𝒱₀ c none) E (κ ⟨⟩) K)
          -∗ wp frame (wpE (defs₀ (F := F)) 𝒱₀ c none) E (chunk arg1 arg3 arg4 p k j >>= κ) K) := by
  unfold chunk step accs
  simp only [Prog.lift, Prog.bind_op, Prog.bind_ret]
  iintro ⟨H1, H3, H4⟩ Hk
  iapply (load_owns c E arg1 X (rc j)) $$ H1
  iintro H1
  iapply (load_owns c E arg3 a.1 rw) $$ H3
  iintro H3
  iapply (load_owns c E arg3 a.1 rw) $$ H3
  iintro H3
  iapply (store_owns c E arg3 a.1 ![0, 0] hz) $$ H3
  iintro H3
  iapply (load_owns c E arg4 a.2 rw) $$ H4
  iintro H4
  iapply (load_owns c E arg4 a.2 rw) $$ H4
  iintro H4
  iapply (store_owns c E arg4 a.2 ![0, 0] hz) $$ H4
  iintro H4
  iapply Hk
  isplitl [H1]; · iexact H1
  rw [View.ld_unit_zero hz, View.ld_unit_zero hz, shapeCast_self, shapeCast_self]
  isplitl [H3]; · iexact H3
  iexact H4

/-- A run of chunks. -/
theorem chunks_triple (p : Rule F) (k : BitVec 32) (κ : Prog (TpuEff nD τ sig (Elt F) Λ₀ .tc) PUnit) (X : Vec F S32x16384 .f32)
    (K : PUnit → sProp 𝕄) (n : Nat) : ∀ (j : Nat) (a : St F),
    iprop(owns (c : Thread nD τ) arg1 fullShare X ∗ accs c arg3 arg4 a)
      ⊢ iprop((owns (c : Thread nD τ) arg1 fullShare X ∗ accs c arg3 arg4 (steps p k X n j a)
            -∗ wp frame (wpE (defs₀ (F := F)) 𝒱₀ c none) E κ K)
          -∗ wp frame (wpE (defs₀ (F := F)) 𝒱₀ c none) E (chunks arg1 arg3 arg4 p k κ n j) K) := by
  induction n with
  | zero =>
    intro j a
    iintro H Hk
    iapply Hk
    iexact H
  | succ n ih =>
    intro j a
    iintro H Hk
    unfold chunks
    iapply (chunk_triple c E arg1 arg3 arg4 p k j X a) $$ H
    iintro H
    iapply (ih (j + 1) (step p k X j a)) $$ H
    iexact Hk

/-- The reset: the accumulators' start. -/
def acc0 : St F := (broadcast S32x256 (Scalar.ofBits (F := F) .f32 0xFF800000#32), bc 0#32)

/-- The first point's reset. -/
theorem init_triple (a : St F) (κ : PUnit → Prog (TpuEff nD τ sig (Elt F) Λ₀ .tc) PUnit) (K : PUnit → sProp 𝕄) :
    accs c arg3 arg4 a
      ⊢ iprop((accs c arg3 arg4 acc0 -∗ wp frame (wpE (defs₀ (F := F)) 𝒱₀ c none) E (κ ⟨⟩) K)
          -∗ wp frame (wpE (defs₀ (F := F)) 𝒱₀ c none) E (initP arg3 arg4 >>= κ) K) := by
  unfold initP accs
  simp only [Prog.lift, Prog.bind_op, Prog.bind_ret]
  iintro ⟨H3, H4⟩ Hk
  iapply (load_owns c E arg3 a.1 rw) $$ H3
  iintro H3
  iapply (store_owns c E arg3 a.1 ![0, 0] hz) $$ H3
  iintro H3
  iapply (load_owns c E arg4 a.2 rw) $$ H4
  iintro H4
  iapply (store_owns c E arg4 a.2 ![0, 0] hz) $$ H4
  iintro H4
  rw [shapeCast_self, shapeCast_self]
  iapply Hk
  isplitl [H3]; · iexact H3
  iexact H4

/-- The last point's reduction. -/
theorem final_triple (a : St F) (O : Vec F S32x1 .i32) (κ : PUnit → Prog (TpuEff nD τ sig (Elt F) Λ₀ .tc) PUnit) (K : PUnit → sProp 𝕄) :
    iprop(accs c arg3 arg4 a ∗ owns (c : Thread nD τ) arg2 fullShare O)
      ⊢ iprop((accs c arg3 arg4 a ∗ owns (c : Thread nD τ) arg2 fullShare (pick a.1 a.2)
            -∗ wp frame (wpE (defs₀ (F := F)) 𝒱₀ c none) E (κ ⟨⟩) K)
          -∗ wp frame (wpE (defs₀ (F := F)) 𝒱₀ c none) E (finalP arg2 arg3 arg4 >>= κ) K) := by
  unfold finalP accs
  simp only [Prog.lift, Prog.bind_op, Prog.bind_ret]
  iintro ⟨⟨H3, H4⟩, H2⟩ Hk
  iapply (load_owns c E arg3 a.1 rw) $$ H3
  iintro H3
  iapply (load_owns c E arg4 a.2 rw) $$ H4
  iintro H4
  iapply (load_owns c E arg2 O (Rect.unit (s := S32x1) ![0, 0] S32x1.size inb_S32x1_S32x1_0_0)) $$ H2
  iintro H2
  iapply (store_owns c E arg2 O ![0, 0] hz) $$ H2
  iintro H2
  rw [View.ld_unit_zero hz, View.ld_unit_zero hz]
  iapply Hk
  isplitr [H2]
  · isplitl [H3]; · iexact H3
    iexact H4
  iexact H2

/-- The rule of the block at point `t`: the last block is cut at the array's end. -/
def ruleAt (t : Nat) : Rule F := if t < 61 then beats else beatsM

/-- The accumulators after the body at point `t`, the block holding `X`. -/
def stepB (t : Nat) (X : Vec F S32x16384 .f32) (a : St F) : St F :=
  steps (ruleAt t) (BitVec.ofNat 32 t) X 64 0 (if t = 0 then acc0 else a)

/-- The first branch is taken at the first point only. -/
theorem cond_first : ∀ t : Fin 62, Scalar.cmpi .ne (Scalar.extui (Scalar.cmpi .eq (BitVec.ofNat 32 t.val) 0#32)) 0#32 = 1#1 ↔ t.val = 0 := by
  decide +kernel

/-- The second branch is taken at every point but the last. -/
theorem cond_inner : ∀ t : Fin 62, Scalar.cmpi .ne (Scalar.extui (Scalar.cmpi .slt (BitVec.ofNat 32 t.val) 61#32)) 0#32 = 1#1 ↔ t.val < 61 := by
  decide +kernel

/-- The third branch is taken at the last point only. -/
theorem cond_last : ∀ t : Fin 62, Scalar.cmpi .ne (Scalar.extui (Scalar.cmpi .eq (BitVec.ofNat 32 t.val) 61#32)) 0#32 = 1#1 ↔ t.val = 61 := by
  decide +kernel

/-- A program followed by the empty one. -/
theorem bind_unit (p : Prog (TpuEff nD τ sig (Elt F) Λ₀ .tc) PUnit) : (p >>= fun _ => Prog.ret PUnit.unit) = p :=
  Prog.bind_pure p

/-- The body at point `t`. -/
theorem body_triple (i : grid0.Coords) (X : Vec F S32x16384 .f32) (a : St F) (O : Vec F S32x1 .i32) (K : PUnit → sProp 𝕄) :
    iprop((owns (c : Thread nD τ) arg1 fullShare X ∗ owns (c : Thread nD τ) arg2 fullShare O ∗ accs c arg3 arg4 a)
        ∗ (owns (c : Thread nD τ) arg1 fullShare X
            ∗ owns (c : Thread nD τ) arg2 fullShare
                (if (i 0).val = 61 then pick (stepB (i 0).val X a).1 (stepB (i 0).val X a).2 else O)
            ∗ accs c arg3 arg4 (stepB (i 0).val X a) -∗ K ⟨⟩))
      ⊢ wp frame (wpE (defs₀ (F := F)) 𝒱₀ c none) E (body arg1 arg2 arg3 arg4 i) K := by
  have c1 := cond_first (i 0)
  have c2 := cond_inner (i 0)
  have c3 : k0_cond3 i = 1#1 ↔ (i 0).val = 61 := cond_last (i 0)
  have hlt : (i 0).val < 62 := (i 0).isLt
  unfold body stepB ruleAt
  simp only [c1, c2, c3]
  iintro ⟨⟨H1, H2, H34⟩, Hk⟩
  by_cases h0 : (i 0).val = 0
  · have h1 : (i 0).val < 61 := by omega
    have h2 : ¬ (i 0).val = 61 := by omega
    rw [dif_pos h0, dif_pos h1, dif_neg h2, if_pos h0, if_pos h1, if_neg h2, Prog.pure_eq_ret, bind_unit]
    iapply (init_triple c E arg3 arg4 a) $$ H34
    iintro H34
    iapply (chunks_triple c E arg1 arg3 arg4 beats _ _ X K 64 0 acc0) $$ [H1 H34]
    · isplitl [H1]; · iexact H1
      iexact H34
    iintro ⟨H1, H34⟩
    rw [wp_ret]
    imodintro
    iapply Hk
    isplitl [H1]; · iexact H1
    isplitl [H2]; · iexact H2
    iexact H34
  · by_cases h2 : (i 0).val = 61
    · have h1 : ¬ (i 0).val < 61 := by omega
      rw [dif_neg h0, dif_neg h1, dif_pos h2, if_neg h0, if_neg h1, if_pos h2, Prog.pure_eq_ret, bind_unit,
        ← Prog.bind_pure (finalP arg2 arg3 arg4)]
      iapply (chunks_triple c E arg1 arg3 arg4 beatsM _ _ X K 64 0 a) $$ [H1 H34]
      · isplitl [H1]; · iexact H1
        iexact H34
      iintro ⟨H1, H34⟩
      iapply (final_triple c E arg2 arg3 arg4 _ O) $$ [H2 H34]
      · isplitl [H34]; · iexact H34
        iexact H2
      iintro ⟨H34, H2⟩
      rw [Prog.pure_eq_ret, wp_ret]
      imodintro
      iapply Hk
      isplitl [H1]; · iexact H1
      isplitl [H2]; · iexact H2
      iexact H34
    · have h1 : (i 0).val < 61 := by omega
      rw [dif_neg h0, dif_pos h1, dif_neg h2, if_neg h0, if_pos h1, if_neg h2, Prog.pure_eq_ret, bind_unit]
      iapply (chunks_triple c E arg1 arg3 arg4 beats _ _ X K 64 0 a) $$ [H1 H34]
      · isplitl [H1]; · iexact H1
        iexact H34
      iintro ⟨H1, H34⟩
      rw [wp_ret]
      imodintro
      iapply Hk
      isplitl [H1]; · iexact H1
      isplitl [H2]; · iexact H2
      iexact H34

end Triples
end Cert.Sample
-- ==== Proof.Run.lean ====
/- The run of the kernel: what the accumulators hold after each grid point, the proof data of its pipeline, the
   body's obligation, and the launch. -/
module

public import proofs.«01_k».proof.Proof.Triples
public import Idealize.ShloMosaic.Lib.Pipeline.ValueKit

@[expose] public section

noncomputable section

namespace Cert.Sample

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig Unit (Elt F) ℕ (UR sig nD τ) ℕ

/-! ## The columns past the array's end are not read -/

/-- The number of the block's columns that the array has, at point `t`. -/
def width (t : Nat) : Nat := if t < 61 then 16384 else 576

/-- The last block's mask, at a lane. -/
theorem mask_lt (c : Nat) (hc : c < 64) (l : Fin 256)
    (h : (BitVec.ofNat 32 l.val).slt (Scalar.subi 1000000#32 (off (BitVec.ofNat 32 61) c)) = true) : 256 * c + l.val < 576 := by
  have h2 : ∀ c : Fin 64, (Scalar.subi 1000000#32 (off (BitVec.ofNat 32 61) c.val)).toInt = 576 - 256 * c.val := by
    decide +kernel
  have h1 : ∀ l : Fin 256, (BitVec.ofNat 32 l.val).toInt = l.val := by decide +kernel
  rw [BitVec.slt_iff_toInt_lt, h1 l, h2 ⟨c, hc⟩] at h
  have : ((⟨c, hc⟩ : Fin 64).val : Int) = c := rfl
  omega

/-- The chunk's element `j` is the block's at `256 c` columns further. -/
theorem ld_rc (X : Vec F S32x16384 .f32) (c : Nat) (j : S32x256.Idx) : View.ld X (rc c) j = X ((rc c).idx j) := rfl

/-- The column of the block that a chunk's lane reads. -/
theorem rc_idx (c : Nat) (j : S32x256.Idx) : ((rc c).idx j 1).val = 256 * (c % 64) + (j 1).val := by
  show 256 * (c % 64) + 1 * (j 1).val = _
  omega

/-- What a chunk's scores take off the logits: less the Gumbel noise. -/
def noise (x : IVec S32x256 32) : FVec F S32x256 .f32 :=
  log (subf (broadcast S32x256 (Scalar.ofBits .f32 0x00000000#32)) (log (unif (bits x))))

/-- A difference at an index. -/
theorem subf_at {s : Shape} {φ : FTy} (x y : FVec F s φ) (j : s.Idx) : subf x y j = FloatOps.subf (x j) (y j) := rfl

/-- A bitwise and at an index. -/
theorem andi_at {s : Shape} {w : Nat} (x y : IVec s w) (j : s.Idx) : andi x y j = x j &&& y j := rfl

/-- A signed comparison at an index. -/
theorem cmpi_slt_at {s : Shape} {w : Nat} (x y : IVec s w) (j : s.Idx) : cmpi .slt x y j = BitVec.ofBool ((x j).slt (y j)) := rfl

/-- The score at an index: the logit there less the noise there. -/
theorem score_at (x : IVec S32x256 32) (X : Vec F S32x256 .f32) (j : S32x256.Idx) :
    score x X j = FloatOps.subf (X j) (noise x j) := by
  have h : score x X = subf X (noise x) := by unfold score noise; with_reducible rfl
  exact (congrFun h j).trans (subf_at _ _ _)

/-- The masked comparison, at an element. -/
theorem beatsM_at (k : BitVec 32) (c : Nat) (X A : Vec F S32x256 .f32) (j : S32x256.Idx) :
    beatsM k c X A j = if (BitVec.ofNat 32 (j 1).val).slt (Scalar.subi 1000000#32 (off k c)) = true then beats k c X A j else 0#1 := by
  have hl : lane j = BitVec.ofNat 32 (j 1).val := by
    show BitVec.ofNat 32 (0 * _ + (j 1).val) = _
    rw [Nat.zero_mul, Nat.zero_add]
  unfold beatsM
  rw [andi_at, cmpi_slt_at, hl, show bc (Scalar.subi 1000000#32 (off k c)) j = Scalar.subi 1000000#32 (off k c) from rfl]
  cases (BitVec.ofNat 32 (j 1).val).slt (Scalar.subi 1000000#32 (off k c))
  · rw [if_neg (by decide)]; exact BitVec.and_zero
  · rw [if_pos rfl]; exact BitVec.and_allOnes

/-- A chunk's effect depends on the columns that the array has alone. -/
theorem step_congr (t : Nat) (ht : t < 62) (X X' : Vec F S32x16384 .f32) (h : ∀ j : S32x16384.Idx, (j 1).val < width t → X j = X' j)
    (c : Nat) (hc : c < 64) (a : St F) :
    step (ruleAt t) (BitVec.ofNat 32 t) X c a = step (ruleAt t) (BitVec.ofNat 32 t) X' c a := by
  have hcm : c % 64 = c := Nat.mod_eq_of_lt hc
  by_cases h1 : t < 61
  · have : X = X' := funext fun j => h j (by
      have : (j 1).val < 16384 := (j 1).isLt
      unfold width; rw [if_pos h1]; exact this)
    rw [this]
  · have h61 : t = 61 := by omega
    subst h61
    have key : ∀ j : S32x256.Idx,
        ((BitVec.ofNat 32 (j 1).val).slt (Scalar.subi 1000000#32 (off (BitVec.ofNat 32 61) c)) = true →
          View.ld X (rc c) j = View.ld X' (rc c) j) := fun j hj => by
      have := mask_lt c hc (j 1) hj
      rw [ld_rc, ld_rc]
      refine h _ ?_
      rw [rc_idx, hcm]
      exact this
    have sc : ∀ j : S32x256.Idx, View.ld X (rc c) j = View.ld X' (rc c) j →
        score (flat42 (BitVec.ofNat 32 61) c) (View.ld X (rc c)) j = score (flat42 (BitVec.ofNat 32 61) c) (View.ld X' (rc c)) j :=
      fun j hj => by rw [score_at, score_at, hj]
    have bt : ∀ j : S32x256.Idx,
        beatsM (BitVec.ofNat 32 61) c (View.ld X (rc c)) a.1 j = beatsM (BitVec.ofNat 32 61) c (View.ld X' (rc c)) a.1 j := fun j => by
      rw [beatsM_at, beatsM_at]
      split
      · rename_i hm
        show FloatOps.cmpf .ogt _ _ = FloatOps.cmpf .ogt _ _
        rw [sc j (key j hm)]
      · rfl
    have hr : (ruleAt 61 : Rule F) = beatsM := if_neg (by decide)
    unfold step
    rw [hr]
    refine Prod.ext (funext fun j => ?_) (funext fun j => ?_)
    · show Scalar.select _ _ _ = Scalar.select _ _ _
      rw [bt j]
      unfold Scalar.select
      split
      · rename_i hm
        rw [beatsM_at] at hm
        split at hm
        · rename_i hk
          exact sc j (key j hk)
        · exact absurd hm (by decide)
      · rfl
    · show Scalar.select _ _ _ = Scalar.select _ _ _
      rw [bt j]

/-- So does a run of chunks. -/
theorem steps_congr (t : Nat) (ht : t < 62) (X X' : Vec F S32x16384 .f32) (h : ∀ j : S32x16384.Idx, (j 1).val < width t → X j = X' j) :
    ∀ (n c : Nat) (hc : c + n ≤ 64) (a : St F),
      steps (ruleAt t) (BitVec.ofNat 32 t) X n c a = steps (ruleAt t) (BitVec.ofNat 32 t) X' n c a
  | 0, _, _, _ => rfl
  | n + 1, c, hc, a => by
    unfold steps
    rw [step_congr t ht X X' h c (by omega) a]
    exact steps_congr t ht X X' h n (c + 1) (by omega) _

/-- And the body. -/
theorem stepB_congr (t : Nat) (ht : t < 62) (X X' : Vec F S32x16384 .f32) (h : ∀ j : S32x16384.Idx, (j 1).val < width t → X j = X' j)
    (a : St F) : stepB t X a = stepB t X' a :=
  steps_congr t ht X X' h 64 0 (by decide) _

/-! ## The proof data -/

variable (m : (ℓ : Loc nD τ sig) → Buf (Elt F) ℓ) (ρ : Dev nD → PrngReg)

/-- The proof's resource algebra: one copy of the rounds library's, the pipeline's. -/
abbrev EP : Emb (UR sig nD τ) (MT nD τ sig Unit (Elt F) ℕ (UR sig nD τ) ℕ) := emb₁

/-- The block of logits at point `t`, filled out past the array's end. -/
def blockAt (c : Dev nD) (t : Fin cfg0.N) : S32x16384.Idx → Elt F .f32 :=
  win0_0.fill (grid0.coords t) (fun _ => Scalar.ofBits .f32 0#32) (iblk m c 0 t)

/-- The accumulators before point `t`. -/
def accAt (c : Dev nD) : Nat → St F
  | 0 => acc0
  | t + 1 => if h : t < 62 then stepB t (blockAt m c ⟨t, h⟩) (accAt c t) else accAt c t

/-- The result: the last point's reduction of the accumulators. -/
@[irreducible] def result (c : Dev nD) : S32x1.Idx → Elt F .i32 := pick (accAt m c (61 + 1)).1 (accAt m c (61 + 1)).2

/-- Between the points the two scratch buffers hold the accumulators (before the first, anything). -/
def PhiS (c : Dev nD) (p : Nat) (_ : p ≤ cfg0.N) : sProp 𝕄 :=
  iprop(∃ a : St F, ⌜p ≠ 0 → a = accAt m c p⌝ ∗ accs c (Memref.whole cc0_scratch0) (Memref.whole cc0_scratch1) a)

/-- The proof data of the one pipeline on device `c`'s TensorCore: after the body the input's buffer holds its block
    and the result's, at the last point, the result. -/
def dats (_ : Fin 1) (c : Dev nD) : Dat τ (Elt F) Unit ℕ (UR sig nD τ) ℕ cfg0 c where
  A w := (s₀ m ρ).mem ((cfg0.win w).arr.view.loc (c : Thread nD τ))
  after w t := match w with
    | ⟨0, _⟩ => blockAt m c t
    | ⟨1, _⟩ => result m c
  Φ p := PhiS m c p.val (Nat.le_of_lt_succ p.isLt)
  q _ := fullShare
  owed _ := 0

/-- The input's buffer arrives holding its block, anything past the array's end. -/
theorem before_0 (c : Dev nD) (t : Fin cfg0.N) (d) :
    (dats m ρ 0 c).before (0 : Fin 2) t d = win0_0.fill (grid0.coords t) d (iblk m c 0 t) := by
  unfold Dat.before; rw [if_pos (fetch0_0 t)]; rfl

/-- How many columns of each block the array has. -/
theorem xsize_width : ∀ t : Fin grid0.N, win0_0.xsize (grid0.coords t) 0 = 32 ∧ win0_0.xsize (grid0.coords t) 1 = width t.val := by
  decide +kernel

/-- The grid's only coordinate is the point's number. -/
theorem coords_val : ∀ t : Fin grid0.N, (grid0.coords t 0).val = t.val := by decide +kernel

/-- On the array's columns a filled block is the same whatever fills it out. -/
theorem fill_agree (t : Fin grid0.N) (d d' : S32x16384.Idx → Elt F .f32) (g) (j : S32x16384.Idx) (hj : (j 1).val < width t.val) :
    win0_0.fill (grid0.coords t) d g j = win0_0.fill (grid0.coords t) d' g j := by
  have hm : win0_0.moved (grid0.coords t) j = true := (win0_0.moved_iff _ _).mpr fun a => by
    have h := xsize_width t
    match a with
    | ⟨0, _⟩ => exact h.1 ▸ (j 0).isLt
    | ⟨1, _⟩ => exact h.2 ▸ hj
  unfold Window.fill
  rw [dif_pos hm, dif_pos hm]

/-- The result's window is idle at every point but the last. -/
theorem idle_1 : ∀ t : Fin grid0.N, idle0 1 (grid0.coords t) = !(decide (t.val = 61)) := by
  decide +kernel

/-- The body's obligation. -/
theorem body_obligation (c : Dev nD) : BodyObligationLoose (dats m ρ 0 c) (defs₀ (F := F)) 𝒱₀ () Set.univ := fun t => by
  rw [bigSep_W0, bigSep_W0]
  simp only
  rw [show (dats m ρ 0 c).owesAt () t.succ = (dats m ρ 0 c).owesAt () t.castSucc from rfl,
    show (dats m ρ 0 c).Φ t.castSucc = PhiS m c t.val (Nat.le_of_lt t.isLt) from Pipeline.Dat.Φ_castSucc (PhiS m c) t,
    show (dats m ρ 0 c).Φ t.succ = PhiS m c (t.val + 1) t.isLt from rfl]
  have hb : defs₀ (F := F) Proc.tc 0 (t, cfg0.slots t) = body (win0_0.stage (cfg0.slots t 0)) (win0_1.stage (cfg0.slots t 1))
      (Memref.whole cc0_scratch0) (Memref.whole cc0_scratch1) (grid0.coords t) := body_eq _ _ _ _ _ _ _ _ _
  rw [hb]
  unfold PhiS
  iintro ⟨⟨%a, %ha, HΦ⟩, Ho, ⟨%d0, H0⟩, ⟨%d1, H1⟩⟩
  rw [before_0 m ρ c t d0]
  iapply (body_triple c Set.univ (win0_0.stage (cfg0.slots t 0)) (win0_1.stage (cfg0.slots t 1))
    (Memref.whole cc0_scratch0) (Memref.whole cc0_scratch1) (grid0.coords t)
    (win0_0.fill (grid0.coords t) d0 (iblk m c 0 t)) a ((dats m ρ 0 c).before 1 t d1) _)
  have htN : t.val < 62 := t.isLt
  have hacc : stepB t.val (win0_0.fill (grid0.coords t) d0 (iblk m c 0 t)) a = accAt m c (t.val + 1) := by
    rw [stepB_congr t.val htN _ (blockAt m c t) (fun j hj => fill_agree t d0 _ (iblk m c 0 t) j hj) a]
    show _ = if h : t.val < 62 then stepB t.val (blockAt m c ⟨t.val, h⟩) (accAt m c t.val) else accAt m c t.val
    rw [dif_pos htN]
    by_cases h0 : t.val = 0
    · unfold stepB
      rw [if_pos h0, if_pos h0]
    · rw [ha h0]
  rw [coords_val t, hacc]
  isplitl [H0 H1 HΦ]
  · isplitl [H0]; · iexact H0
    isplitl [H1]; · iexact H1
    iexact HΦ
  iintro ⟨H0, H1, HΦ⟩
  isplitl [HΦ]
  · iexists accAt m c (t.val + 1)
    isplitr; · ipureintro; exact fun _ => rfl
    iexact HΦ
  isplitl [Ho]; · iexact Ho
  isplitl [H0]
  · iexists d0
    have hx : win0_0.cut (grid0.coords t) (blockAt m c t) = iblk m c 0 t := win0_0.cut_fill _ _ _
    change _ ⊢ owns (c : Thread nD τ) (stage0_0 (cfg0.slots t 0)) fullShare (win0_0.fill (grid0.coords t) d0 (win0_0.cut (grid0.coords t) (blockAt m c t)))
    rw [hx]; try iexact H0
  · rw [idle_1 t]
    by_cases h61 : t.val = 61
    · rw [if_pos h61, decide_eq_true h61]
      have hr : result m c = pick (accAt m c (t.val + 1)).1 (accAt m c (t.val + 1)).2 := by unfold result; rw [h61]
      change _ ⊢ owns (c : Thread nD τ) (stage0_1 (cfg0.slots t 1)) fullShare (result m c)
      rw [hr]
      try iexact H1
    · rw [if_neg h61, decide_eq_false h61]
      have hf : (win0 1).flush t = false := by
        have h := (flush0_1 t).not.mpr (by omega)
        exact Bool.eq_false_iff.mpr h
      rw [hf]
      simp only [Bool.not_false]
      iexists d1
      iexact H1

/-! ## The launch, by the library -/

/-- The launch element: every staging cell's owner at round 0 and a duty token for every transfer. -/
def u₀ : UR sig nD τ := initOf (Pipeline.cells cfgs launch0.cellOf_inj) (Pipeline.launchToks cfgs launch0.cellOf_inj)

/-- Every array of the kernel holds what it holds after the last write-back. -/
def QC : PUnit × MemSt nD τ sig (Elt F) → Prop := fun r =>
  ∀ (c : Dev nD) (w : Fin cfg0.W), r.2.mem ((cfg0.win w).arr.view.loc (c : Thread nD τ)) = (dats m ρ 0 c).arrAt w cfg0.N

set_option backward.isDefEq.respectTransparency.types false in
/-- The run: every execution of the main function ends with the arrays as computed and every counter at zero. -/
theorem run_main : θ_run defs (onTc (τ := τ) (main (F := F))) (s₀ m ρ) (fun r => QC m ρ r ∧ r.2.sem = fun _ => 0) :=
  Pipeline.θ_run_region_noSem_kit_quiescent cfgs (dats m ρ) () (0 : Fin 1) launch0 EP defs₀ 𝒱₀ m ρ main
    (hbody := body_obligation m ρ)
    (hshare := fun c => (dats m ρ 0 c).share_full fun _ => rfl) (howed := fun _ _ => rfl)
    (u₀ := u₀) (hu₀ := BI.Entails.refl _)
    (V := fun c b => m ((c : Thread nD τ).loc b))
    (hmain := fun c Q => by
      simp only [main, Prog.lift, Prog.bind_op, Prog.bind_ret]
      iintro ⟨Hk, Hb⟩; iapply Hk; iexact Hb)
    (hA := fun _ _ => rfl)
    (X := fun _ => iprop(emp)) (Y := fun _ => iprop(emp)) (Z := fun _ => iprop(emp))
    (hX := fun c => by rw [unscopedRest0_eq]; iintro -; isplitr <;> iempintro)
    (hin := fun c => by
      rw [scopedRest0_eq, show (dats m ρ 0 c).Φ 0 = PhiS m c 0 (Nat.zero_le _) from rfl]
      unfold PhiS accs
      iintro ⟨-, ⟨%f, H0⟩, ⟨%g, H1⟩⟩
      iexists ((f, g) : St F)
      isplitr; · ipureintro; exact fun h => absurd rfl h
      rw [owns_whole, owns_whole]
      isplitl [H0]; · iexact H0
      iexact H1)
    (hout := fun c => by
      rw [scopedRest0_eq, show (dats m ρ 0 c).Φ (Fin.last _) = PhiS m c cfg0.N (le_refl _) from rfl]
      unfold PhiS accs
      simp only [owns_whole]
      iintro ⟨%a, %_h, H0, H1⟩
      isplitr; · iempintro
      isplitl [H0]
      · iexists a.1; iexact H0
      · iexists a.2; iexact H1)
    (QY := fun _ _ => True)
    (hY := fun c s' => by
      iintro ⟨-, -, HSI⟩; imodintro
      isplitr; · ipureintro; trivial
      iexact HSI)
    (hQ := fun _ h hz => ⟨fun c w => (h c).1 w, hz⟩)

/-- The result's block, after any point, is the result. -/
theorem after_1 (c : Dev nD) (t : Fin cfg0.N) : (dats m ρ 0 c).after 1 t = result m c := rfl

/-- The last point. -/
abbrev tLast : Fin cfg0.N := ⟨61, by decide⟩

/-- The result array after the run. -/
theorem final_out (c : Dev nD) : (dats m ρ 0 c).arrAt 1 cfg0.N = result m c := by
  refine (dats m ρ 0 c).arrAt_eq_of_after_last 1 tLast (by decide +kernel) _ fun j => ?_
  rw [after_1]
  generalize result m c = R
  rfl

/-- The run's end: the result is in its array, the argument as it was, every counter at zero. -/
theorem run : θ_run defs (onTc (τ := τ) (main (F := F))) (s₀ m ρ) (fun r =>
    (∀ c : Dev nD, r.2.mem ((c.tc : Thread nD τ).loc main_v0) = result m c
      ∧ r.2.mem ((c.tc : Thread nD τ).loc main_arg0) = m ((c.tc : Thread nD τ).loc main_arg0)) ∧ r.2.sem = fun _ => 0) :=
  (θ_run defs _ _).mono (fun _ h => ⟨fun c => ⟨(h.1 c 1).trans (final_out m ρ c),
    (h.1 c 0).trans ((dats m ρ 0 c).arrAt_in 0 rfl _)⟩, h.2⟩) (run_main m ρ)

end Cert.Sample
-- ==== Proof.Ideal.lean ====
/- The run of the idealized kernel: its program is the kernel's text at the extended reals. -/
module

public import proofs.«01_k».proof.Proof.Run
public import proofs.«01_k».proof.Proof.Gen.KernelIdeal

@[expose] public section

noncomputable section

namespace Cert.Sample

open Idealize.ShloMosaic Idealize.ShloMosaic.TcCoe
open Idealize.SL.Sem

/-- The two programs have one signature. -/
theorem sig_eq : Cert.KernelIdeal.sig = Cert.Kernel.sig := by sl_kernel_rfl

/-- The idealized kernel's run. -/
theorem run_ideal (m : (ℓ : Loc Cert.KernelIdeal.nD Cert.KernelIdeal.τ Cert.KernelIdeal.sig) → Buf (Elt Ideal) ℓ) (ρ : Dev Cert.KernelIdeal.nD → PrngReg) :
    θ_run Cert.KernelIdeal.defs (onTc (τ := Cert.KernelIdeal.τ) (Cert.KernelIdeal.main (F := Ideal))) ⟨m, fun _ => 0, ρ⟩ (fun r =>
    (∀ c : Dev Cert.KernelIdeal.nD, r.2.mem ((c.tc : Thread Cert.KernelIdeal.nD Cert.KernelIdeal.τ).loc Cert.KernelIdeal.main_v0) = result (F := Ideal) m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)) ∧ r.2.sem = fun _ => 0) := by
  have h := run (F := Ideal) m ρ
  refine cast ?_ h
  sl_kernel_rfl

end Cert.Sample
-- ==== Proof.Chain.lean ====
/- The threefry2x32 hash of one counter, over any words: the twenty rounds and the five key injections as one chain. -/
module

public import Idealize.ShloMosaic.Lib.Tactic

@[expose] public section

namespace Cert.Sample

/-- Four rounds and the key injection after them: `add` of words; `r0 r1 r2 r3` of `b` and `a`, the word `b` rotated
    and crossed with `a`; the key words `kx ky` and the injection's number `n`. -/
def group {V : Type} (add : V → V → V) (r0 r1 r2 r3 : V → V → V) (kx ky n : V) (p : V × V) : V × V :=
  let a1 := add p.1 p.2
  let b1 := r0 p.2 a1
  let a2 := add a1 b1
  let b2 := r1 b1 a2
  let a3 := add a2 b2
  let b3 := r2 b2 a3
  let a4 := add a3 b3
  let b4 := r3 b3 a4
  (add a4 kx, add (add b4 ky) n)

/-- The chain: `add` and `xor` of words; `rot i b a`, the word `b` rotated by the `i`-th of the eight amounts
    13, 15, 26, 6, 17, 29, 16, 24 and crossed with `a`; the three key words `k0 k1 k2`; the numbers one to five; the
    counter with the first key already added. The two words of the result are crossed. -/
def chain {V : Type} (add xor : V → V → V) (rot : Fin 8 → V → V → V) (k0 k1 k2 n1 n2 n3 n4 n5 : V) (p : V × V) : V :=
  let p1 := group add (rot 0) (rot 1) (rot 2) (rot 3) k1 k2 n1 p
  let p2 := group add (rot 4) (rot 5) (rot 6) (rot 7) k2 k0 n2 p1
  let p3 := group add (rot 0) (rot 1) (rot 2) (rot 3) k0 k1 n3 p2
  let p4 := group add (rot 4) (rot 5) (rot 6) (rot 7) k1 k2 n4 p3
  let p5 := group add (rot 0) (rot 1) (rot 2) (rot 3) k2 k0 n5 p4
  xor p5.1 p5.2

/-- The eight rotations: left by the first number, which is right by the second. -/
def rotBy : Fin 8 → BitVec 32 × BitVec 32
  | 0 => (13#32, 19#32)
  | 1 => (15#32, 17#32)
  | 2 => (26#32, 6#32)
  | 3 => (6#32, 26#32)
  | 4 => (17#32, 15#32)
  | 5 => (29#32, 3#32)
  | 6 => (16#32, 16#32)
  | 7 => (24#32, 8#32)

open Idealize.ShloMosaic

/-- A word rotated and crossed, the shifts on unit `u`. -/
def rotS (u : ArithUnit) (i : Fin 8) (b a : BitVec 32) : BitVec 32 :=
  IntOp.xori (IntOp.ori (IntOp.shli u b (rotBy i).1) (IntOp.shrui u b (rotBy i).2)) a

/-- No rotation's amount is a corner of the shifts: the units agree. -/
theorem rotS_host (i : Fin 8) (b a : BitVec 32) :
    IntOp.xori a (IntOp.ori (IntOp.shli .host b (rotBy i).1) (IntOp.shrui .host b (rotBy i).2)) = rotS .vector i b a := by
  have h : ∀ i : Fin 8, (rotBy i).1.toNat < 32 ∧ (rotBy i).2.toNat < 32 := by decide
  unfold rotS IntOp.shli IntOp.shrui
  rw [if_pos (h i).1, if_pos (h i).2, if_pos (h i).1, if_pos (h i).2]
  exact BitVec.xor_comm _ _

/-- The hash of the counter `(0, w - 42)` under the key `(0, 42)`. -/
def hash (w : BitVec 32) : BitVec 32 :=
  chain (· + ·) (fun x y => x ^^^ y) (rotS .vector) 0#32 42#32 466689008#32 1#32 2#32 3#32 4#32 5#32 (0#32, w)

end Cert.Sample
-- ==== Proof.RefRun.lean ====
/- The run of the idealized reference: the list of its operations, read off the printed program, and the result as one
   term over the argument. -/
module

public import proofs.«01_k».proof.ReferenceIdeal
public import proofs.«01_k».proof.Proof.Gen.ReferenceIdeal
public import proofs.«01_k».proof.Proof.Chain
public import Idealize.ShloMosaic.Lib.Claim

@[expose] public section

noncomputable section

namespace Cert.Ref

open Cert.ReferenceIdeal Cert.ReferenceIdeal.Gen Cert.Sample
open Idealize.ShloMosaic Idealize.ShloMosaic.TcCoe Idealize.SL.Sem Idealize.ShloMosaic.StableHlo

variable {F : FTy → Type} [FloatOps F]

/-- The programs of the reference. -/
abbrev Pr (F : FTy → Type) [FloatOps F] := Prog (TpuEff nD τ sig (Elt F) (Pipeline.Sig Λ₀ (Fin 0) fun p => (pcfgs (F := F) p).Adm) .tc) PUnit

/-! ## The list of operations -/

/-- `p` is the line `ops`, of operations on the core's buffers that create none. -/
structure Line (p : Pr F) (ops : List (HloOp τ sig (Elt F))) : Prop where
  eq : p = seq ops
  bufs : ops.Forall fun op => op.bufs ⊆ tcRefs τ sig
  fresh : ∀ op ∈ ops, op.fresh = ∅

/-- A program's line, read off it. -/
structure LineOf (p : Pr F) where
  /-- The operations. -/
  ops : List (HloOp τ sig (Elt F))
  /-- They are the program. -/
  line : Line p ops

/-- The line of the program that only returns. -/
def LineOf.nil : LineOf (F := F) (pure ⟨⟩) := ⟨[], rfl, trivial, fun _ h => nomatch h⟩

/-- An operation before a line of operations is a line. -/
theorem Line.cons {op : HloOp τ sig (Elt F)} {k : Pr F} {ops : List (HloOp τ sig (Elt F))} (hb : op.bufs ⊆ tcRefs τ sig) (hf : op.fresh = ∅)
    (h : Line k ops) : Line ((hlo rfl op fun _ => .ret (⟨⟩ : PUnit)) >>= fun _ => k) (op :: ops) :=
  ⟨IsSeq.cons h.eq, (List.forall_cons _ _ _).mpr ⟨hb, h.bufs⟩, fun o ho => by
    rcases List.mem_cons.mp ho with rfl | ho
    · exact hf
    · exact h.fresh o ho⟩

/-- A line after a line is a line. -/
theorem Line.append {p k : Pr F} {l l' : List (HloOp τ sig (Elt F))} (h : Line p l) (h' : Line k l') : Line (p >>= fun _ => k) (l ++ l') :=
  ⟨by rw [h.eq, h'.eq, seq_append], List.forall_append.mpr ⟨h.bufs, h'.bufs⟩, fun o ho => by
    rcases List.mem_append.mp ho with ho | ho
    · exact h.fresh o ho
    · exact h'.fresh o ho⟩

/-- One operation, then a line. -/
def LineOf.cons {op : HloOp τ sig (Elt F)} {k : Pr F} (hb : op.bufs ⊆ tcRefs τ sig) (hf : op.fresh = ∅)
    (h : LineOf k) : LineOf ((hlo rfl op fun _ => .ret (⟨⟩ : PUnit)) >>= fun _ => k) :=
  ⟨op :: h.ops, h.line.cons hb hf⟩

/-- A last operation. -/
def LineOf.last {op : HloOp τ sig (Elt F)} (hb : op.bufs ⊆ tcRefs τ sig) (hf : op.fresh = ∅) :
    LineOf (F := F) (hlo rfl op fun _ => .ret (⟨⟩ : PUnit)) :=
  ⟨[op], rfl, hb, fun o ho => by rcases List.mem_singleton.mp ho with rfl; exact hf⟩

/-- A line, then a line. -/
def LineOf.append {p k : Pr F} (h : LineOf p) (h' : LineOf k) : LineOf (p >>= fun _ => k) :=
  ⟨h.ops ++ h'.ops, h.line.append h'.line⟩

/-- The hash's operations, in the printed parts. -/
def tf0 : LineOf (F := F) (fn_threefry2x32.body_part0 (.of main_v22) (.of main_v24) (.of main_v35) (.of main_v34) main_call0) := by
    unfold fn_threefry2x32.body_part0
    repeat (first | exact LineOf.nil | refine LineOf.cons (by simp) (by rfl) ?_ | exact LineOf.last (by simp) (by rfl))
@[inherit_doc tf0]
def tf1 : LineOf (F := F) (fn_threefry2x32.body_part1 (.of main_v22) (.of main_v24) (.of main_v35) (.of main_v34) main_call0) := by
    unfold fn_threefry2x32.body_part1
    repeat (first | exact LineOf.nil | refine LineOf.cons (by simp) (by rfl) ?_ | exact LineOf.last (by simp) (by rfl))
@[inherit_doc tf0]
def tf2 : LineOf (F := F) (fn_threefry2x32.body_part2 (.of main_v22) (.of main_v24) (.of main_v35) (.of main_v34) main_call0) := by
    unfold fn_threefry2x32.body_part2
    repeat (first | exact LineOf.nil | refine LineOf.cons (by simp) (by rfl) ?_ | exact LineOf.last (by simp) (by rfl))
@[inherit_doc tf0]
def tf3 : LineOf (F := F) (fn_threefry2x32.body_part3 (.of main_v22) (.of main_v24) (.of main_v35) (.of main_v34) main_call0) := by
    unfold fn_threefry2x32.body_part3
    repeat (first | exact LineOf.nil | refine LineOf.cons (by simp) (by rfl) ?_ | exact LineOf.last (by simp) (by rfl))

/-- The hash's whole body. -/
def tf : LineOf (F := F) (fn_threefry2x32.body (.of main_v22) (.of main_v24) (.of main_v35) (.of main_v34) main_call0) :=
  tf0.append (tf1.append (tf2.append tf3))

/-- The argmax's body. -/
def am : LineOf (F := F) (fn_argmax.body (.of main_v51) main_call1) := by
    unfold fn_argmax.body
    repeat (first | exact LineOf.nil | refine LineOf.cons (by simp) (by rfl) ?_ | exact LineOf.last (by simp) (by rfl))

/-- The two parts of the program. -/
def mp0 (d : Dev nD) : LineOf (F := F) (main_part0 d) := by
    unfold main_part0
    repeat (first | exact LineOf.nil | refine LineOf.append tf ?_ | refine LineOf.cons (by simp) (by rfl) ?_ | exact LineOf.last (by simp) (by rfl))
@[inherit_doc mp0]
def mp1 (d : Dev nD) : LineOf (F := F) (main_part1 d) := by
    unfold main_part1
    repeat (first | exact LineOf.nil | refine LineOf.append am ?_ | refine LineOf.cons (by simp) (by rfl) ?_ | exact LineOf.last (by simp) (by rfl))

/-- The whole program's line. -/
def mp (d : Dev nD) : LineOf (F := F) (main d) := (mp0 d).append (mp1 d)

/-- The line's operations, the same on every device. -/
def ops : List (HloOp τ sig (Elt F)) := (mp 0).ops

/-- The reference runs to its operations' effect on the launch contents. -/
theorem run_ops (m : (ℓ : Loc nD τ sig) → Buf (Elt F) ℓ) (ρ : Dev nD → PrngReg) :
    θ_run (defs (F := F)) (onTc (τ := τ) main) ⟨m, fun _ => 0, ρ⟩ fun r =>
      ∀ (d : Dev nD) (b : Ref sig .tc), r.2.mem ((d.tc : Thread nD τ).loc b) = after ops (launchContents m d) (Proc.devRef .tc b) :=
  run_hlo defs main (ops := ops) (fun d => (mp d).line.eq) (by decide) (by decide) (mp 0).line.bufs (mp 0).line.fresh m ρ

end Cert.Ref
-- ==== Proof.RefVal.lean ====
/- The reference's result as one term over its argument. -/
module

public import proofs.«01_k».proof.Proof.RefRun

@[expose] public section

noncomputable section

namespace Cert.Ref

open Cert.ReferenceIdeal Cert.ReferenceIdeal.Gen Cert.Sample
open Idealize.ShloMosaic Idealize.ShloMosaic.TcCoe Idealize.SL.Sem Idealize.ShloMosaic.StableHlo

variable {F : FTy → Type} [FloatOps F]

/-- A word at every index. -/
abbrev bw (k : IVec S_ 32) : IVec S32x1000000 32 := broadcastInDim S32x1000000 ![] bcast_S_S32x1000000 k

/-- A number at every index. -/
abbrev bf (k : FVec F S_ .f32) : FVec F S32x1000000 .f32 := broadcastInDim S32x1000000 ![] bcast_S_S32x1000000 k

/-- A column at every column. -/
abbrev bcol (k : FVec F S32 .f32) : FVec F S32x1000000 .f32 :=
  broadcastInDim S32x1000000 ![0, 1] bcast_S32x1_S32x1000000_0_1 (broadcastInDim S32x1 ![0] bcast_S32_S32x1_0 k)

/-- The two key words, one after the other. -/
def keys : IVec S2 32 :=
  concatenate S2 0
    [⟨S1, broadcastInDim S1 ![] bcast_S_S1 (Host.shrui (constantI S_ 32 42#32) (constantI S_ 32 32#32))⟩,
     ⟨S1, broadcastInDim S1 ![] bcast_S_S1 (andi (constantI S_ 32 42#32) (constantI S_ 32 4294967295#32))⟩]
    concatenates_S1_S1_S2_d0

/-- The first key word. -/
def key0 : IVec S_ 32 := shapeCast S_ (extractStridedSlice S1 ![0] keys slices_S2_S1_0) shapeCasts_S1_S_

/-- The second key word. -/
def key1 : IVec S_ 32 := shapeCast S_ (extractStridedSlice S1 ![1] keys slices_S2_S1_1) shapeCasts_S1_S_

/-- The third key word, of the other two. -/
def key2 (k0 k1 : IVec S_ 32) : IVec S_ 32 := xori (xori k0 k1) (constantI S_ 32 466688986#32)

/-- The counter of each index: its place in row-major order. -/
def counter : IVec S32x1000000 64 :=
  addi (muli (broadcastInDim S32x1000000 ![] bcast_S_S32x1000000 (constantI S_ 64 1000000#64)) (iotaInDim S32x1000000 64 0))
    (muli (broadcastInDim S32x1000000 ![] bcast_S_S32x1000000 (constantI S_ 64 1#64)) (iotaInDim S32x1000000 64 1))

/-- The counter's lower word. -/
def lo : IVec S32x1000000 32 := trunci 32 counter natLt_32_64

/-- The counter's upper word. -/
def hi : IVec S32x1000000 32 :=
  trunci 32 (Host.shrui counter (broadcastInDim S32x1000000 ![] bcast_S_S32x1000000 (constantI S_ 64 32#64))) natLt_32_64

/-- A rotation crossed with the other word, at every index. -/
def rotV (i : Fin 8) (b a : IVec S32x1000000 32) : IVec S32x1000000 32 :=
  xori a (ori (Host.shli b (bw (constantI S_ 32 (rotBy i).1))) (Host.shrui b (bw (constantI S_ 32 (rotBy i).2))))

/-- The random words. -/
def words (k0 k1 : IVec S_ 32) (h l : IVec S32x1000000 32) : IVec S32x1000000 32 :=
  chain addi xori rotV (bw k0) (bw k1) (bw (key2 k0 k1)) (bw (constantI S_ 32 1#32)) (bw (constantI S_ 32 2#32))
    (bw (constantI S_ 32 3#32)) (bw (constantI S_ 32 4#32)) (bw (constantI S_ 32 5#32)) (addi h (bw k0), addi l (bw k1))

/-- The uniform draws of words. -/
def draws (w : IVec S32x1000000 32) : FVec F S32x1000000 .f32 :=
  maximumf (subf (bitcastToFloat .f32 (ori (Host.shrui w (bw (constantI S_ 32 9#32))) (bw (constantI S_ 32 1065353216#32))))
    (bf (constant S_ .f32 0x3F800000#32))) (bf (constant S_ .f32 0x00800000#32))

/-- The Gumbel noise of draws. -/
def gumbel (u : FVec F S32x1000000 .f32) : FVec F S32x1000000 .f32 := Host.negf (Host.log (Host.negf (Host.log u)))

/-- The logits times the temperature. -/
def scaled (x : FVec F S32x1000000 .f32) : FVec F S32x1000000 .f32 := mulf x (bf (constant S_ .f32 0x3F800000#32))

/-- Each row's maximum. -/
def rowMax (y : FVec F S32x1000000 .f32) : FVec F S32 .f32 :=
  maximumf (broadcastInDim S32 ![] bcast_S_S32 (constant S_ .f32 0xFF800000#32))
    (Host.reduce FloatOps.maximumf y (constant S_ .f32 0xFF800000#32) reducesTo_S32x1000000_S32_d1 h_S_)

/-- The exponentials of the distances to the row maximum. -/
def exps (y : FVec F S32x1000000 .f32) : FVec F S32x1000000 .f32 := Host.exp (subf y (bcol (rowMax y)))

/-- The log-probabilities. -/
def logp (y : FVec F S32x1000000 .f32) : FVec F S32x1000000 .f32 :=
  Host.log (Host.divf (exps y)
    (bcol (Host.reduceAdd (exps y) (constant S_ .f32 0x00000000#32) reducesTo_S32x1000000_S32_d1 h_S_)))

/-- Each row's second word. -/
def second {α β : Type} (p : S32.Idx → α × β) : S32.Idx → β := fun j => (p j).2

/-- The index of each row's greatest score. -/
def best (z : FVec F S32x1000000 .f32) : IVec S32 32 :=
  second (Host.argReduce reducer_argmax_f32_i32 z (iotaInDim S32x1000000 32 1) (constant S_ .f32 0xFF800000#32) (constantI S_ 32 0#32)
    reducesTo_S32x1000000_S32_d1 h_S_)

/-- The reference's sample. -/
def sample (x : FVec F S32x1000000 .f32) : IVec S32x1 32 :=
  shapeCast S32x1 (best (addf (gumbel (draws (words key0 key1 hi lo))) (logp (scaled x)))) shapeCasts_S32_S32x1

/-! ## The line, in segments -/

/-- The contents after `n` of the line's operations, the first `a` left out. -/
def seg (a n : Nat) (V : Valuation τ sig (Elt F)) : Valuation τ sig (Elt F) := after ((ops.drop a).take n) V

/-- A line is a first part and the rest. -/
theorem after_cut (l : List (HloOp τ sig (Elt F))) (n : Nat) (V : Valuation τ sig (Elt F)) :
    after l V = after (l.drop n) (after (l.take n) V) := by
  induction n generalizing l V with
  | zero => rfl
  | succ n ih => cases l with
    | nil => rfl
    | cons o l => exact ih l _

/-- The line from a place on is its next segment and the line from that segment's end on. -/
theorem cut (a n : Nat) (V : Valuation τ sig (Elt F)) : after (ops.drop a) V = after (ops.drop (a + n)) (seg a n V) := by
  rw [after_cut (ops.drop a) n V, List.drop_drop]; rfl

/-- Four rounds on the reference's vectors, rotating by the `i`-th four amounts. -/
def groupV (i : Bool) (kx ky : IVec S_ 32) (n : BitVec 32) (p : IVec S32x1000000 32 × IVec S32x1000000 32) :
    IVec S32x1000000 32 × IVec S32x1000000 32 :=
  group addi (rotV (if i then 4 else 0)) (rotV (if i then 5 else 1)) (rotV (if i then 6 else 2)) (rotV (if i then 7 else 3))
    (bw kx) (bw ky) (bw (constantI S_ 32 n)) p

/-- What the hash's segments keep: the argument, the log-probabilities, the three key words. -/
structure Keeps (V W : Valuation τ sig (Elt F)) : Prop where
  arg : W (Proc.devRef .tc main_arg0) = V (Proc.devRef .tc main_arg0)
  logp : W (Proc.devRef .tc main_v13) = V (Proc.devRef .tc main_v13)
  k0 : W (Proc.devRef .tc main_v22) = V (Proc.devRef .tc main_v22)
  k1 : W (Proc.devRef .tc main_v24) = V (Proc.devRef .tc main_v24)
  k2 : W (Proc.devRef .tc main_call0_v1) = V (Proc.devRef .tc main_call0_v1)

/-! The segments before the hash: the log-probabilities, the key words, the counter with the keys added. -/

/-- The scaled logits. -/
theorem s0 (V : Valuation τ sig (Elt F)) : seg 0 3 V (Proc.devRef .tc main_v1) =
    scaled (F := F) (V (Proc.devRef .tc main_arg0)) := by sl_kernel_rfl

/-- The row maxima of the scaled logits. -/
theorem s3 (V : Valuation τ sig (Elt F)) : seg 3 2 V (Proc.devRef .tc main_v2) =
    Host.reduce (α := F .f32) FloatOps.maximumf (V (Proc.devRef .tc main_v1)) (constant (F := F) S_ .f32 0xFF800000#32) reducesTo_S32x1000000_S32_d1 h_S_ := by sl_kernel_rfl

/-- The scaled logits stay while the maxima are taken. -/
theorem s3_v1 (V : Valuation τ sig (Elt F)) : seg 3 2 V (Proc.devRef .tc main_v1) =
    V (Proc.devRef .tc main_v1) := by sl_kernel_rfl

/-- The exponentials of the scaled logits less their row's maximum. -/
theorem s5 (V : Valuation τ sig (Elt F)) : seg 5 7 V (Proc.devRef .tc main_v8) =
    Host.exp (F := F) (subf (V (Proc.devRef .tc main_v1)) (bcol
      (maximumf (broadcastInDim S32 ![] bcast_S_S32 (constant S_ .f32 0xFF800000#32)) (V (Proc.devRef .tc main_v2))))) := by sl_kernel_rfl

/-- The log-probabilities. -/
theorem s12 (V : Valuation τ sig (Elt F)) : seg 12 6 V (Proc.devRef .tc main_v13) =
    Host.log (F := F) (Host.divf (V (Proc.devRef .tc main_v8))
      (bcol (Host.reduceAdd (V (Proc.devRef .tc main_v8)) (constant S_ .f32 0x00000000#32) reducesTo_S32x1000000_S32_d1 h_S_))) := by sl_kernel_rfl

/-- The argument stays over segment 0. -/
theorem s0_arg (V : Valuation τ sig (Elt F)) : seg 0 3 V (Proc.devRef .tc main_arg0) =
    V (Proc.devRef .tc main_arg0) := by sl_kernel_rfl

/-- The argument stays over segment 3. -/
theorem s3_arg (V : Valuation τ sig (Elt F)) : seg 3 2 V (Proc.devRef .tc main_arg0) =
    V (Proc.devRef .tc main_arg0) := by sl_kernel_rfl

/-- The argument stays over segment 5. -/
theorem s5_arg (V : Valuation τ sig (Elt F)) : seg 5 7 V (Proc.devRef .tc main_arg0) =
    V (Proc.devRef .tc main_arg0) := by sl_kernel_rfl

/-- The argument stays over segment 12. -/
theorem s12_arg (V : Valuation τ sig (Elt F)) : seg 12 6 V (Proc.devRef .tc main_arg0) =
    V (Proc.devRef .tc main_arg0) := by sl_kernel_rfl

/-- The argument stays over segment 18. -/
theorem s18_arg (V : Valuation τ sig (Elt F)) : seg 18 35 V (Proc.devRef .tc main_arg0) =
    V (Proc.devRef .tc main_arg0) := by sl_kernel_rfl

/-- The log-probabilities stay while the keys are made. -/
theorem s18_logp (V : Valuation τ sig (Elt F)) : seg 18 35 V (Proc.devRef .tc main_v13) =
    V (Proc.devRef .tc main_v13) := by sl_kernel_rfl

/-- The first key word. -/
theorem s18_k0 (V : Valuation τ sig (Elt F)) : seg 18 35 V (Proc.devRef .tc main_v22) =
    key0 := by sl_kernel_rfl

/-- The second key word. -/
theorem s18_k1 (V : Valuation τ sig (Elt F)) : seg 18 35 V (Proc.devRef .tc main_v24) =
    key1 := by sl_kernel_rfl

/-- The third key word. -/
theorem s18_k2 (V : Valuation τ sig (Elt F)) : seg 18 35 V (Proc.devRef .tc main_call0_v1) =
    key2 key0 key1 := by sl_kernel_rfl

/-- The counter's high word with the first key added. -/
theorem s18_x (V : Valuation τ sig (Elt F)) : seg 18 35 V (Proc.devRef .tc main_call0_v3) =
    addi hi (bw key0) := by sl_kernel_rfl

/-- The counter's low word with the second key added. -/
theorem s18_y (V : Valuation τ sig (Elt F)) : seg 18 35 V (Proc.devRef .tc main_call0_v5) =
    addi lo (bw key1) := by sl_kernel_rfl

/-! Each group of four rounds, as one function of the two words before it. -/

/-- The first word after round group 1. -/
theorem group1_x (V : Valuation τ sig (Elt F)) : seg 53 43 V (Proc.devRef .tc main_call0_v35) =
    (groupV false (V (Proc.devRef .tc main_v24)) (V (Proc.devRef .tc main_call0_v1)) 1#32
      (V (Proc.devRef .tc main_call0_v3), V (Proc.devRef .tc main_call0_v5))).1 := by sl_kernel_rfl

/-- The second word after round group 1. -/
theorem group1_y (V : Valuation τ sig (Elt F)) : seg 53 43 V (Proc.devRef .tc main_call0_v39) =
    (groupV false (V (Proc.devRef .tc main_v24)) (V (Proc.devRef .tc main_call0_v1)) 1#32
      (V (Proc.devRef .tc main_call0_v3), V (Proc.devRef .tc main_call0_v5))).2 := by sl_kernel_rfl

/-- What round group 1 leaves alone. -/
theorem group1_keeps (V : Valuation τ sig (Elt F)) : Keeps V (seg 53 43 V) := by constructor <;> sl_kernel_rfl

/-- The first word after round group 2. -/
theorem group2_x (V : Valuation τ sig (Elt F)) : seg 96 43 V (Proc.devRef .tc main_call0_v69) =
    (groupV true (V (Proc.devRef .tc main_call0_v1)) (V (Proc.devRef .tc main_v22)) 2#32
      (V (Proc.devRef .tc main_call0_v35), V (Proc.devRef .tc main_call0_v39))).1 := by sl_kernel_rfl

/-- The second word after round group 2. -/
theorem group2_y (V : Valuation τ sig (Elt F)) : seg 96 43 V (Proc.devRef .tc main_call0_v73) =
    (groupV true (V (Proc.devRef .tc main_call0_v1)) (V (Proc.devRef .tc main_v22)) 2#32
      (V (Proc.devRef .tc main_call0_v35), V (Proc.devRef .tc main_call0_v39))).2 := by sl_kernel_rfl

/-- What round group 2 leaves alone. -/
theorem group2_keeps (V : Valuation τ sig (Elt F)) : Keeps V (seg 96 43 V) := by constructor <;> sl_kernel_rfl

/-- The first word after round group 3. -/
theorem group3_x (V : Valuation τ sig (Elt F)) : seg 139 43 V (Proc.devRef .tc main_call0_v103) =
    (groupV false (V (Proc.devRef .tc main_v22)) (V (Proc.devRef .tc main_v24)) 3#32
      (V (Proc.devRef .tc main_call0_v69), V (Proc.devRef .tc main_call0_v73))).1 := by sl_kernel_rfl

/-- The second word after round group 3. -/
theorem group3_y (V : Valuation τ sig (Elt F)) : seg 139 43 V (Proc.devRef .tc main_call0_v107) =
    (groupV false (V (Proc.devRef .tc main_v22)) (V (Proc.devRef .tc main_v24)) 3#32
      (V (Proc.devRef .tc main_call0_v69), V (Proc.devRef .tc main_call0_v73))).2 := by sl_kernel_rfl

/-- What round group 3 leaves alone. -/
theorem group3_keeps (V : Valuation τ sig (Elt F)) : Keeps V (seg 139 43 V) := by constructor <;> sl_kernel_rfl

/-- The first word after round group 4. -/
theorem group4_x (V : Valuation τ sig (Elt F)) : seg 182 43 V (Proc.devRef .tc main_call0_v137) =
    (groupV true (V (Proc.devRef .tc main_v24)) (V (Proc.devRef .tc main_call0_v1)) 4#32
      (V (Proc.devRef .tc main_call0_v103), V (Proc.devRef .tc main_call0_v107))).1 := by sl_kernel_rfl

/-- The second word after round group 4. -/
theorem group4_y (V : Valuation τ sig (Elt F)) : seg 182 43 V (Proc.devRef .tc main_call0_v141) =
    (groupV true (V (Proc.devRef .tc main_v24)) (V (Proc.devRef .tc main_call0_v1)) 4#32
      (V (Proc.devRef .tc main_call0_v103), V (Proc.devRef .tc main_call0_v107))).2 := by sl_kernel_rfl

/-- What round group 4 leaves alone. -/
theorem group4_keeps (V : Valuation τ sig (Elt F)) : Keeps V (seg 182 43 V) := by constructor <;> sl_kernel_rfl

/-- The first word after round group 5. -/
theorem group5_x (V : Valuation τ sig (Elt F)) : seg 225 43 V (Proc.devRef .tc main_v36_0) =
    (groupV false (V (Proc.devRef .tc main_call0_v1)) (V (Proc.devRef .tc main_v22)) 5#32
      (V (Proc.devRef .tc main_call0_v137), V (Proc.devRef .tc main_call0_v141))).1 := by sl_kernel_rfl

/-- The second word after round group 5. -/
theorem group5_y (V : Valuation τ sig (Elt F)) : seg 225 43 V (Proc.devRef .tc main_v36_1) =
    (groupV false (V (Proc.devRef .tc main_call0_v1)) (V (Proc.devRef .tc main_v22)) 5#32
      (V (Proc.devRef .tc main_call0_v137), V (Proc.devRef .tc main_call0_v141))).2 := by sl_kernel_rfl

/-- What round group 5 leaves alone. -/
theorem group5_keeps (V : Valuation τ sig (Elt F)) : Keeps V (seg 225 43 V) := by constructor <;> sl_kernel_rfl

/-! The segments after the hash: the crossed words' uniform draws, their noise, the greatest score. -/

/-- The uniform draws of the hashed words. -/
theorem t268 (V : Valuation τ sig (Elt F)) : seg 268 14 V (Proc.devRef .tc main_v46) =
    draws (F := F) (xori (V (Proc.devRef .tc main_v36_0)) (V (Proc.devRef .tc main_v36_1))) := by sl_kernel_rfl

/-- The log-probabilities stay while the words become draws. -/
theorem t268_logp (V : Valuation τ sig (Elt F)) : seg 268 14 V (Proc.devRef .tc main_v13) =
    V (Proc.devRef .tc main_v13) := by sl_kernel_rfl

/-- The noise and the log-probabilities, added. -/
theorem t282 (V : Valuation τ sig (Elt F)) : seg 282 5 V (Proc.devRef .tc main_v51) =
    addf (F := F) (gumbel (V (Proc.devRef .tc main_v46))) (V (Proc.devRef .tc main_v13)) := by sl_kernel_rfl

/-- The noisy log-probabilities stay while the arg-max's operands are made. -/
theorem t287_z (V : Valuation τ sig (Elt F)) : seg 287 4 V (Proc.devRef .tc main_v51) =
    V (Proc.devRef .tc main_v51) := by sl_kernel_rfl

/-- The column of every element. -/
theorem t287_i (V : Valuation τ sig (Elt F)) : seg 287 4 V (Proc.devRef .tc main_call1_v0) =
    iotaInDim S32x1000000 32 1 := by sl_kernel_rfl

/-- The arg-max starts from `-∞`. -/
theorem t287_u (V : Valuation τ sig (Elt F)) : seg 287 4 V (Proc.devRef .tc main_call1_cst) =
    constant (F := F) S_ .f32 0xFF800000#32 := by sl_kernel_rfl

/-- The arg-max starts from column 0. -/
theorem t287_v (V : Valuation τ sig (Elt F)) : seg 287 4 V (Proc.devRef .tc main_call1_c) =
    constantI S_ 32 0#32 := by sl_kernel_rfl

/-- Each row's column of the greatest. -/
theorem t291 (V : Valuation τ sig (Elt F)) : seg 291 1 V (Proc.devRef .tc main_v52) =
    fun j => (Host.argReduce (reducer_argmax_f32_i32 (F := F)) (V (Proc.devRef .tc main_v51)) (V (Proc.devRef .tc main_call1_v0)) (V (Proc.devRef .tc main_call1_cst))
      (V (Proc.devRef .tc main_call1_c)) reducesTo_S32x1000000_S32_d1 h_S_ j).2 := by sl_kernel_rfl

/-- The result as a column. -/
theorem t292 (V : Valuation τ sig (Elt F)) : seg 292 1 V (Proc.devRef .tc main_v53) =
    shapeCast S32x1 (V (Proc.devRef .tc main_v52)) shapeCasts_S32_S32x1 := by sl_kernel_rfl

/-- The argument stays over segment 268. -/
theorem t268_arg (V : Valuation τ sig (Elt F)) : seg 268 14 V (Proc.devRef .tc main_arg0) =
    V (Proc.devRef .tc main_arg0) := by sl_kernel_rfl

/-- The argument stays over segment 282. -/
theorem t282_arg (V : Valuation τ sig (Elt F)) : seg 282 5 V (Proc.devRef .tc main_arg0) =
    V (Proc.devRef .tc main_arg0) := by sl_kernel_rfl

/-- The argument stays over segment 287. -/
theorem t287_arg (V : Valuation τ sig (Elt F)) : seg 287 4 V (Proc.devRef .tc main_arg0) =
    V (Proc.devRef .tc main_arg0) := by sl_kernel_rfl

/-- The argument stays over segment 291. -/
theorem t291_arg (V : Valuation τ sig (Elt F)) : seg 291 1 V (Proc.devRef .tc main_arg0) =
    V (Proc.devRef .tc main_arg0) := by sl_kernel_rfl

/-- The argument stays over segment 292. -/
theorem t292_arg (V : Valuation τ sig (Elt F)) : seg 292 1 V (Proc.devRef .tc main_arg0) =
    V (Proc.devRef .tc main_arg0) := by sl_kernel_rfl

/-- Nothing follows the last segment. -/
theorem t293 (V : Valuation τ sig (Elt F)) : after (ops.drop 293) V =
    V := by sl_kernel_rfl

/-- The line is its segments. -/
theorem ops_cut (V : Valuation τ sig (Elt F)) : after ops V = seg 292 1 (seg 291 1 (seg 287 4 (seg 282 5 (seg 268 14 (seg 225 43 (seg 182 43 (seg 139 43 (seg 96 43 (seg 53 43 (seg 18 35 (seg 12 6 (seg 5 7 (seg 3 2 (seg 0 3 V)))))))))))))) := by
  have c : ∀ a n b : Nat, a + n = b → ∀ V, after (ops.drop a) V = after (ops.drop b) (seg (F := F) a n V) := by
    rintro a n _ rfl V; exact cut a n V
  have h : after ops V = after (ops.drop 0) V := rfl
  rw [h, c 0 3 3 rfl, c 3 2 5 rfl, c 5 7 12 rfl, c 12 6 18 rfl, c 18 35 53 rfl, c 53 43 96 rfl, c 96 43 139 rfl, c 139 43 182 rfl, c 182 43 225 rfl, c 225 43 268 rfl, c 268 14 282 rfl, c 282 5 287 rfl, c 287 4 291 rfl, c 291 1 292 rfl, c 292 1 293 rfl, t293]

/-- No operation writes the argument. -/
theorem arg0 (V : Valuation τ sig (Elt F)) : after ops V (Proc.devRef .tc main_arg0) = V (Proc.devRef .tc main_arg0) := by
  rw [ops_cut, t292_arg, t291_arg, t287_arg, t282_arg, t268_arg, (group5_keeps _).arg, (group4_keeps _).arg, (group3_keeps _).arg,
    (group2_keeps _).arg, (group1_keeps _).arg, s18_arg, s12_arg, s5_arg, s3_arg, s0_arg]

/-- The two words that the hash leaves are those of the chain. -/
theorem hash_val (V : Valuation τ sig (Elt F)) (W : Valuation τ sig (Elt F)) (h : W = seg 18 35 V) :
    xori (seg 225 43 (seg 182 43 (seg 139 43 (seg 96 43 (seg 53 43 W)))) (Proc.devRef .tc main_v36_0))
      (seg 225 43 (seg 182 43 (seg 139 43 (seg 96 43 (seg 53 43 W)))) (Proc.devRef .tc main_v36_1)) = words key0 key1 hi lo := by
  have e0 : W (Proc.devRef .tc main_v22) = key0 := by rw [h, s18_k0]
  have e1 : W (Proc.devRef .tc main_v24) = key1 := by rw [h, s18_k1]
  have e2 : W (Proc.devRef .tc main_call0_v1) = key2 key0 key1 := by rw [h, s18_k2]
  have ex : W (Proc.devRef .tc main_call0_v3) = addi hi (bw key0) := by rw [h, s18_x]
  have ey : W (Proc.devRef .tc main_call0_v5) = addi lo (bw key1) := by rw [h, s18_y]
  rw [group5_x, group5_y, group4_x, group4_y, group3_x, group3_y, group2_x, group2_y, group1_x, group1_y]
  simp only [(group4_keeps _).k0, (group4_keeps _).k1, (group4_keeps _).k2, (group3_keeps _).k0, (group3_keeps _).k1, (group3_keeps _).k2,
    (group2_keeps _).k0, (group2_keeps _).k1, (group2_keeps _).k2, (group1_keeps _).k0, (group1_keeps _).k1, (group1_keeps _).k2]
  rw [e0, e1, e2, ex, ey]
  unfold words chain groupV
  sl_kernel_rfl

/-- The result's buffer ends holding the sample. -/
theorem val (V : Valuation τ sig (Elt F)) :
    after ops V (Proc.devRef .tc main_v53) = sample (F := F) (V (Proc.devRef .tc main_arg0)) := by
  rw [ops_cut, t292, t291, t287_z, t287_i, t287_u, t287_v, t282, t268, t268_logp, hash_val _ _ rfl, (group5_keeps _).logp, (group4_keeps _).logp,
    (group3_keeps _).logp, (group2_keeps _).logp, (group1_keeps _).logp, s18_logp, s12, s5, s3, s3_v1, s0]
  unfold sample best second logp exps rowMax
  with_reducible rfl

/-- The reference runs, its result the sample of its argument, its argument unchanged, no semaphore touched. -/
theorem run (m : (ℓ : Loc nD τ sig) → Buf (Elt F) ℓ) (ρ : Dev nD → PrngReg) :
    θ_run (defs (F := F)) (onTc (τ := τ) main) ⟨m, fun _ => 0, ρ⟩ fun r =>
      ∀ c : Dev nD, r.2.mem ((c.tc : Thread nD τ).loc main_v53) = sample (F := F) (m ((c.tc : Thread nD τ).loc main_arg0))
        ∧ r.2.mem ((c.tc : Thread nD τ).loc main_arg0) = m ((c.tc : Thread nD τ).loc main_arg0) :=
  θ_run_mono (run_ops m ρ) fun r h c => ⟨(h c main_v53).trans (val _), (h c main_arg0).trans (arg0 _)⟩

end Cert.Ref
-- ==== Proof.Hash.lean ====
/- One hash on both sides: the kernel's random words and the reference's are the same function of the same counter. -/
module

public import proofs.«01_k».proof.Proof.Run
public import proofs.«01_k».proof.Proof.RefVal

@[expose] public section

noncomputable section

namespace Cert.Sample

open Idealize.ShloMosaic

/-! ## The chain under a map -/

section Map
variable {V W : Type} (e : V → W) (add xor : V → V → V) (add' xor' : W → W → W)
  (hadd : ∀ a b, e (add a b) = add' (e a) (e b)) (hxor : ∀ a b, e (xor a b) = xor' (e a) (e b))
include hadd

/-- Four rounds commute with a map that commutes with their operations. -/
theorem group_map (r0 r1 r2 r3 : V → V → V) (s0 s1 s2 s3 : W → W → W) (h0 : ∀ a b, e (r0 a b) = s0 (e a) (e b))
    (h1 : ∀ a b, e (r1 a b) = s1 (e a) (e b)) (h2 : ∀ a b, e (r2 a b) = s2 (e a) (e b))
    (h3 : ∀ a b, e (r3 a b) = s3 (e a) (e b)) (kx ky n : V) (p : V × V) :
    Prod.map e e (group add r0 r1 r2 r3 kx ky n p) = group add' s0 s1 s2 s3 (e kx) (e ky) (e n) (Prod.map e e p) := by
  simp only [group, Prod.map, hadd, h0, h1, h2, h3]

include hxor
/-- The chain commutes with a map that commutes with its operations. -/
theorem chain_map (rot : Fin 8 → V → V → V) (rot' : Fin 8 → W → W → W) (hrot : ∀ i a b, e (rot i a b) = rot' i (e a) (e b))
    (k0 k1 k2 n1 n2 n3 n4 n5 : V) (p : V × V) :
    e (chain add xor rot k0 k1 k2 n1 n2 n3 n4 n5 p)
      = chain add' xor' rot' (e k0) (e k1) (e k2) (e n1) (e n2) (e n3) (e n4) (e n5) (Prod.map e e p) := by
  have hg : ∀ (i0 i1 i2 i3 : Fin 8) (kx ky n : V) (p : V × V),
      group add' (rot' i0) (rot' i1) (rot' i2) (rot' i3) (e kx) (e ky) (e n) (Prod.map e e p)
        = Prod.map e e (group add (rot i0) (rot i1) (rot i2) (rot i3) kx ky n p) := fun i0 i1 i2 i3 kx ky n p =>
    (group_map e add add' hadd _ _ _ _ _ _ _ _ (hrot i0) (hrot i1) (hrot i2) (hrot i3) kx ky n p).symm
  unfold chain
  simp only [hg]
  exact hxor _ _

end Map

/-! ## The kernel's words -/

/-- A rotation crossed with the other word, at every lane. -/
def rotK (i : Fin 8) (b a : IVec Cert.Kernel.S32x256 32) : IVec Cert.Kernel.S32x256 32 :=
  xori (ori (shli b (bc (rotBy i).1)) (shrui b (bc (rotBy i).2))) a

/-- The kernel's words are the chain on its vectors. -/
theorem bits_chain (x : IVec Cert.Kernel.S32x256 32) :
    bits x = chain addi xori rotK (bc 0#32) (bc 42#32) (bc 466689008#32) (bc 1#32) (bc 2#32) (bc 3#32) (bc 4#32) (bc 5#32)
      (bc 0#32, x) := by sl_kernel_rfl

/-- The kernel's word at a lane is the hash of that lane's counter. -/
theorem bits_at (x : IVec Cert.Kernel.S32x256 32) (j : Cert.Kernel.S32x256.Idx) : bits x j = hash (x j) := by
  rw [bits_chain]
  exact chain_map (fun v : IVec Cert.Kernel.S32x256 32 => v j) addi xori (· + ·) (fun x y => x ^^^ y) (fun _ _ => rfl)
    (fun _ _ => rfl) rotK (rotS .vector) (fun _ _ _ => rfl) _ _ _ _ _ _ _ _ _

variable {F : FTy → Type} [FloatOps F]

/-- The uniform draw of one word. -/
def unit1 (w : BitVec 32) : F .f32 :=
  FloatOps.maximumf (FloatOps.subf (FloatOps.ofBits .f32 ((w >>> 9) ||| 1065353216#32)) (FloatOps.ofBits .f32 0x3F800000#32))
    (FloatOps.ofBits .f32 0x00800000#32)

/-- What the kernel takes off the logit whose counter is `w`. -/
def nz (w : BitVec 32) : F .f32 :=
  FloatOps.log (FloatOps.subf (FloatOps.ofBits .f32 0x00000000#32) (FloatOps.log (unit1 (hash w))))

/-- That noise, spelt out. -/
theorem nz_def (w : BitVec 32) : nz (F := F) w =
    FloatOps.log (FloatOps.subf (FloatOps.ofBits .f32 0x00000000#32) (FloatOps.log (unit1 (hash w)))) := by
  unfold nz; with_reducible rfl

/-- A shift right by nine is below the word's width, on every unit. -/
theorem shrui9 (u : ArithUnit) (w : BitVec 32) : IntOp.shrui u w 9#32 = w >>> 9 := by
  unfold IntOp.shrui
  rw [if_pos (by decide)]
  rfl

/-- The noise of random words, at a lane. -/
theorem noise_of (B : IVec Cert.Kernel.S32x256 32) (j : Cert.Kernel.S32x256.Idx) :
    (log (subf (broadcast Cert.Kernel.S32x256 (Scalar.ofBits .f32 0x00000000#32)) (log (unif B))) : FVec F Cert.Kernel.S32x256 .f32) j
      = FloatOps.log (FloatOps.subf (FloatOps.ofBits .f32 0x00000000#32) (FloatOps.log (unit1 (B j)))) := by
  unfold unit1
  rw [← shrui9 .vector]
  rfl

/-- The noise at a lane is that of its counter. -/
theorem noise_at (x : IVec Cert.Kernel.S32x256 32) (j : Cert.Kernel.S32x256.Idx) : noise (F := F) x j = nz (x j) := by
  unfold noise nz
  rw [← bits_at x j]
  exact noise_of _ _

/-! ## The reference's words -/

open Cert.Ref Cert.ReferenceIdeal

/-- Nothing but the empty index is an index of a scalar. -/
theorem idx0 (i : S_.Idx) : i = fun a => a.elim0 := funext fun a => a.elim0

/-- A word at every index is that word. -/
theorem bw_at (k : IVec S_ 32) (j : S32x1000000.Idx) : bw k j = k fun a => a.elim0 := congrArg k (idx0 _)

/-- A number at every index is that number. -/
theorem bf_at {F : FTy → Type} [FloatOps F] (k : FVec F S_ .f32) (j : S32x1000000.Idx) : bf k j = k fun a => a.elim0 :=
  congrArg k (idx0 _)

/-- The first key word is zero. -/
theorem key0_at : key0 (fun a => a.elim0) = 0#32 := by sl_kernel_rfl
/-- The second key word is the seed. -/
theorem key1_at : key1 (fun a => a.elim0) = 42#32 := by decide +kernel
/-- The third key word. -/
theorem key2_at : key2 key0 key1 (fun a => a.elim0) = 466689008#32 := by
  show (key0 (fun a => a.elim0) ^^^ key1 (fun a => a.elim0)) ^^^ 466688986#32 = _
  rw [key0_at, key1_at]
  decide

/-- The place of an index in row-major order. -/
theorem counter_at (j : S32x1000000.Idx) : counter j = BitVec.ofNat 64 ((j 0).val * 1000000 + (j 1).val) := by
  show 1000000#64 * BitVec.ofNat 64 (j 0).val + 1#64 * BitVec.ofNat 64 (j 1).val = _
  rw [← BitVec.ofNat_mul, ← BitVec.ofNat_mul, ← BitVec.ofNat_add]
  congr 1
  omega

/-- The counter's lower word. -/
theorem lo_at (j : S32x1000000.Idx) : lo j = BitVec.ofNat 32 ((j 0).val * 1000000 + (j 1).val) := by
  show (counter j).setWidth 32 = _
  rw [counter_at]
  apply BitVec.eq_of_toNat_eq
  simp only [BitVec.toNat_setWidth, BitVec.toNat_ofNat]
  omega

/-- The counter's upper word is zero. -/
theorem hi_at (j : S32x1000000.Idx) : hi j = 0#32 := by
  show (IntOp.shrui .host (counter j) 32#64).setWidth 32 = _
  have h0 : (j 0).val < 32 := (j 0).isLt
  have h1 : (j 1).val < 1000000 := (j 1).isLt
  unfold IntOp.shrui
  rw [if_pos (by decide), counter_at]
  apply BitVec.eq_of_toNat_eq
  simp only [BitVec.toNat_setWidth, BitVec.ushiftRight_eq', BitVec.toNat_ushiftRight, BitVec.toNat_ofNat]
  rw [Nat.shiftRight_eq_div_pow]
  have h : (j 0).val * 1000000 + (j 1).val < 4294967296 := by omega
  rw [Nat.mod_eq_of_lt (lt_trans h (by decide))]
  show _ / 4294967296 % _ = 0 % _
  rw [Nat.div_eq_of_lt h]

/-- The reference's word at an index is the hash of that index's counter. -/
theorem words_at (j : S32x1000000.Idx) :
    words key0 key1 hi lo j = hash (BitVec.ofNat 32 ((j 0).val * 1000000 + (j 1).val + 42)) := by
  unfold words
  refine (chain_map (fun v : IVec S32x1000000 32 => v j) addi xori (· + ·) (fun x y => x ^^^ y) (fun _ _ => rfl)
    (fun _ _ => rfl) rotV (rotS .vector) (fun i a b => rotS_host i (a j) (b j)) _ _ _ _ _ _ _ _ _).trans ?_
  have e1 : addi hi (bw key0) j = 0#32 := by
    show hi j + bw key0 j = _
    rw [hi_at, bw_at, key0_at]; rfl
  have e2 : addi lo (bw key1) j = BitVec.ofNat 32 ((j 0).val * 1000000 + (j 1).val + 42) := by
    show lo j + bw key1 j = _
    rw [lo_at, bw_at, key1_at]
    exact (BitVec.ofNat_add _ _).symm
  have e3 : Prod.map (fun v : IVec S32x1000000 32 => v j) (fun v => v j) (addi hi (bw key0), addi lo (bw key1))
      = (0#32, BitVec.ofNat 32 ((j 0).val * 1000000 + (j 1).val + 42)) := Prod.ext e1 e2
  rw [e3]
  simp only [bw_at, key0_at, key1_at, key2_at]
  rfl

/-- The reference's draw at an index. -/
theorem draws_of (B : IVec S32x1000000 32) (j : S32x1000000.Idx) : draws (F := F) B j = unit1 (B j) := by
  unfold unit1
  rw [← shrui9 .host]
  rfl

/-! ## The kernel's counters -/

/-- The row's first flat index. -/
theorem rowBase_at (j : Cert.Kernel.S32x256.Idx) : rowBase j = BitVec.ofNat 32 ((j 0).val * 1000000) := by
  show BitVec.ofNat 32 (0 * _ + (j 0).val) * 1000000#32 = _
  rw [Nat.zero_mul, Nat.zero_add, BitVec.ofNat_mul]

/-- The counter of chunk `c`'s element in block `t`. -/
theorem flat42_at (t c : Nat) (j : Cert.Kernel.S32x256.Idx) :
    flat42 (BitVec.ofNat 32 t) c j = BitVec.ofNat 32 ((j 0).val * 1000000 + (256 * (64 * t + c) + (j 1).val) + 42) := by
  have hl : lane j = BitVec.ofNat 32 (j 1).val := by
    show BitVec.ofNat 32 (0 * _ + (j 1).val) = _
    rw [Nat.zero_mul, Nat.zero_add]
  have hk : Scalar.addi (off (BitVec.ofNat 32 t) c) 42#32 = BitVec.ofNat 32 (16384 * t + 256 * c + 42) := by
    refine ((BitVec.ofNat_add _ _).trans (congrArg (· + 42#32) ((BitVec.ofNat_add _ _).trans
      (congrArg (· + BitVec.ofNat 32 (256 * c)) ?_)))).symm
    rw [Nat.mul_comm]
    exact BitVec.ofNat_mul _ _
  have hs : flat42 (BitVec.ofNat 32 t) c j = (rowBase j + lane j) + Scalar.addi (off (BitVec.ofNat 32 t) c) 42#32 := rfl
  rw [hs, hk, hl, rowBase_at, ← BitVec.ofNat_add, ← BitVec.ofNat_add]
  exact congrArg _ (by omega)

end Cert.Sample
-- ==== Proof.Noise.lean ====
/- The noise over the reals: at every counter a real number, the same on both sides. -/
module

public import proofs.«01_k».proof.Proof.Hash

@[expose] public section

noncomputable section

namespace Cert.Sample

open Idealize.ShloMosaic

/-- A positive normal float of exponent field `e` and fraction field `a`. -/
theorem ofBits_normal (v : BitVec 32) (e a : ℕ) (h1 : v.extractLsb' 31 1 = 0#1) (h2 : (v.extractLsb' 23 8).toNat = e)
    (h3 : (v.extractLsb' 0 23).toNat = a) (he : e ≠ 255) (h0 : e ≠ 0) :
    Ideal.ofBits .f32 v = (((8388608 + a : ℝ) * (2 : ℝ) ^ ((e : ℤ) - 127 - 23) : ℝ) : EReal) := by
  show Ideal.ieee 8 23 v = _
  unfold Ideal.ieee
  simp only [h1, h2, h3]
  rw [if_neg (by omega), if_neg h0]
  congr 1
  norm_num

/-- The float of `[1, 2)` whose fraction is the word's upper 23 bits. -/
theorem ofBits_one_to_two (w : BitVec 32) :
    Ideal.ofBits .f32 ((w >>> 9) ||| 1065353216#32) = (((1 : ℝ) + ((w >>> 9).toNat : ℝ) / 8388608 : ℝ) : EReal) := by
  have ha : (w >>> 9).toNat < 2 ^ 23 := by
    rw [BitVec.toNat_ushiftRight, Nat.shiftRight_eq_div_pow]
    have := w.isLt
    omega
  have hv : ((w >>> 9) ||| 1065353216#32).toNat = 127 * 2 ^ 23 + (w >>> 9).toNat := by
    rw [BitVec.toNat_or, Nat.or_comm]
    show 1065353216 ||| _ = _
    rw [Nat.mul_comm, Nat.two_pow_add_eq_or_of_lt ha]
  generalize (w >>> 9).toNat = a at ha hv
  generalize (w >>> 9) ||| 1065353216#32 = v at hv
  have h1 : v.extractLsb' 31 1 = 0#1 := by
    apply BitVec.eq_of_toNat_eq
    rw [BitVec.extractLsb'_toNat, hv, Nat.shiftRight_eq_div_pow]
    show _ = 0
    omega
  have h2 : (v.extractLsb' 23 8).toNat = 127 := by
    rw [BitVec.extractLsb'_toNat, hv, Nat.shiftRight_eq_div_pow]
    omega
  have h3 : (v.extractLsb' 0 23).toNat = a := by
    rw [BitVec.extractLsb'_toNat, hv, Nat.shiftRight_eq_div_pow]
    omega
  rw [ofBits_normal v 127 a h1 h2 h3 (by decide) (by decide)]
  congr 1
  rw [show ((127 : ℕ) : ℤ) - 127 - 23 = -23 from rfl, zpow_neg]
  norm_num
  ring

/-- One. -/
theorem ofBits_one : Ideal.ofBits .f32 0x3F800000#32 = 1 := by
  rw [ofBits_normal _ 127 0 (by decide) (by decide) (by decide) (by decide) (by decide), ← EReal.coe_one]
  congr 1
  rw [show ((127 : ℕ) : ℤ) - 127 - 23 = -23 from rfl, zpow_neg]
  norm_num

/-- The least normal float. -/
theorem ofBits_tiny : Ideal.ofBits .f32 0x00800000#32 = (((2 : ℝ) ^ (-126 : ℤ) : ℝ) : EReal) := by
  rw [ofBits_normal _ 1 0 (by decide) (by decide) (by decide) (by decide) (by decide)]
  congr 1
  rw [show ((1 : ℕ) : ℤ) - 127 - 23 = -149 from rfl, zpow_neg, zpow_neg]
  norm_num

/-- Minus infinity. -/
theorem ofBits_bot : Ideal.ofBits .f32 0xFF800000#32 = ⊥ := by
  simp [Ideal.ofBits, Ideal.ieee]

/-- Plus infinity. -/
theorem ofBits_top : Ideal.ofBits .f32 0x7F800000#32 = ⊤ := by
  simp [Ideal.ofBits, Ideal.ieee]

/-- A draw is a real number between zero and one. -/
theorem unit1_real (w : BitVec 32) : ∃ r : ℝ, 0 < r ∧ r < 1 ∧ unit1 (F := Ideal) w = (r : EReal) := by
  have ha : ((w >>> 9).toNat : ℝ) < 8388608 := by
    have : (w >>> 9).toNat < 8388608 := by
      rw [BitVec.toNat_ushiftRight, Nat.shiftRight_eq_div_pow]
      have := w.isLt
      omega
    exact_mod_cast this
  have h0 : (0 : ℝ) ≤ ((w >>> 9).toNat : ℝ) := Nat.cast_nonneg _
  refine ⟨max (((w >>> 9).toNat : ℝ) / 8388608) ((2 : ℝ) ^ (-126 : ℤ)), lt_max_of_lt_right (by positivity),
    max_lt (by rw [div_lt_one (by norm_num)]; exact ha) (by norm_num [zpow_neg]), ?_⟩
  show max (Ideal.ofBits .f32 _ - Ideal.ofBits .f32 0x3F800000#32) (Ideal.ofBits .f32 0x00800000#32) = _
  have hs : ∀ y : ℝ, ((1 + y : ℝ) : EReal) - 1 = (y : EReal) := fun y => by
    rw [← EReal.coe_one, ← EReal.coe_sub]
    congr 1
    ring
  rw [ofBits_one_to_two, ofBits_one, ofBits_tiny, hs]
  exact (EReal.coe_strictMono.monotone.map_max).symm

/-- The kernel's noise of a draw, over the reals. -/
theorem noise_eq (u : Ideal .f32) : FloatOps.log (F := Ideal) (φ := .f32) (FloatOps.subf (F := Ideal) (φ := .f32)
    (FloatOps.ofBits (F := Ideal) .f32 0x00000000#32) (FloatOps.log (F := Ideal) (φ := .f32) u)) = Ideal.log (0 - Ideal.log u) := by
  rw [Ideal.log_def, Ideal.log_def, Ideal.subf_def, Ideal.ofBits_def, Ideal.ofBits_zero_f32]

/-- The kernel's noise, over the reals. -/
theorem nz_eq (w : BitVec 32) : nz (F := Ideal) w = Ideal.log (0 - Ideal.log (unit1 (F := Ideal) (hash w))) := by
  rw [nz_def]
  have h : ∀ u : Ideal .f32, Ideal.log (0 - Ideal.log u) = FloatOps.log (F := Ideal) (φ := .f32) (FloatOps.subf (F := Ideal) (φ := .f32)
    (FloatOps.ofBits (F := Ideal) .f32 0x00000000#32) (FloatOps.log (F := Ideal) (φ := .f32) u)) := fun u => (noise_eq u).symm
  rw [h]

/-- What the kernel takes off a logit is a real number. -/
theorem nz_real (w : BitVec 32) : ∃ v : ℝ, nz (F := Ideal) w = (v : EReal) := by
  obtain ⟨r, h0, h1, hr⟩ := unit1_real (hash w)
  have hl : Real.log r < 0 := Real.log_neg h0 h1
  refine ⟨Real.log (0 - Real.log r), ?_⟩
  rw [nz_eq, hr]
  have e1 : Ideal.log (r : EReal) = (Real.log r : EReal) := if_neg (not_le.mpr h0)
  rw [e1, ← EReal.coe_zero, ← EReal.coe_sub]
  exact if_neg (not_le.mpr (by linarith))

open Cert.Ref Cert.ReferenceIdeal

/-- The reference's noise over the reals, at an index. -/
theorem gumbel_of (u : FVec Ideal S32x1000000 .f32) (j : S32x1000000.Idx) :
    gumbel u j = -(Ideal.log (-(Ideal.log (u j)))) := rfl

/-- The reference's noise at an index is what the kernel takes off the logit there, negated. -/
theorem gumbel_at (j : S32x1000000.Idx) :
    gumbel (F := Ideal) (draws (words key0 key1 hi lo)) j
      = -(nz (F := Ideal) (BitVec.ofNat 32 ((j 0).val * 1000000 + (j 1).val + 42)) : EReal) := by
  rw [gumbel_of, draws_of, words_at, nz_eq, zero_sub]

end Cert.Sample
-- ==== Proof.First.lean ====
/- The first place of the greatest value: what a running maximum kept by strict comparison finds, lane by lane, and
   what a reduction keeping the lesser index of equal values finds. -/
module

public import Mathlib.Data.EReal.Basic
public import Mathlib.Data.Finset.Max

@[expose] public section

namespace Cert.Sample

/-- `k` is the first of the places below `n` where `f` is greatest. -/
def First (f : ℕ → EReal) (n k : ℕ) : Prop := k < n ∧ (∀ i < n, f i ≤ f k) ∧ ∀ i < n, f i = f k → k ≤ i

/-- There is no other. -/
theorem First.unique {f : ℕ → EReal} {n k k' : ℕ} (h : First f n k) (h' : First f n k') : k = k' := by
  have e : f k = f k' := le_antisymm (h'.2.1 k h.1) (h.2.1 k' h'.1)
  exact le_antisymm (h.2.2 k' h'.1 e.symm) (h'.2.2 k h.1 e)

/-- There is one. -/
theorem First.exists (f : ℕ → EReal) {n : ℕ} (hn : 0 < n) : ∃ k, First f n k := by
  classical
  obtain ⟨a, ha, hm⟩ := Finset.exists_max_image (Finset.range n) f ⟨0, Finset.mem_range.mpr hn⟩
  have h : ∃ k, k < n ∧ ∀ i < n, f i ≤ f k :=
    ⟨a, Finset.mem_range.mp ha, fun i hi => hm i (Finset.mem_range.mpr hi)⟩
  refine ⟨Nat.find h, (Nat.find_spec h).1, (Nat.find_spec h).2, fun i hi he => Nat.find_min' h ⟨hi, ?_⟩⟩
  rw [he]
  exact (Nat.find_spec h).2

/-- Two functions of one order have one first place. -/
theorem First.congr {f g : ℕ → EReal} {n k : ℕ} (h : First f n k) (hfg : ∀ i < n, ∀ j < n, f i ≤ f j ↔ g i ≤ g j) :
    First g n k :=
  ⟨h.1, fun i hi => (hfg i hi k h.1).mp (h.2.1 i hi), fun i hi he => h.2.2 i hi
    (le_antisymm ((hfg i hi k h.1).mpr he.le) ((hfg k h.1 i hi).mpr he.ge))⟩

/-! ## A lane's running maximum -/

/-- Lane `l`'s maximum and the word of its place after `q` chunks of 256 of the `n` places: replaced where beaten. -/
noncomputable def laneMax (s : ℕ → EReal) (w : ℕ → BitVec 32) (n l : ℕ) : ℕ → EReal × BitVec 32
  | 0 => (⊥, 0#32)
  | q + 1 => open Classical in if 256 * q + l < n ∧ (laneMax s w n l q).1 < s (256 * q + l) then (s (256 * q + l), w (256 * q + l))
      else laneMax s w n l q

/-- After `q` chunks the lane holds the first of its greatest values, or nothing where all were `-∞`. -/
theorem laneMax_spec (s : ℕ → EReal) (w : ℕ → BitVec 32) (n l : ℕ) : ∀ q : ℕ,
    ((laneMax s w n l q).1 = ⊥ ∧ ∀ p < q, 256 * p + l < n → s (256 * p + l) = ⊥)
    ∨ ∃ p < q, 256 * p + l < n ∧ ⊥ < s (256 * p + l) ∧ laneMax s w n l q = (s (256 * p + l), w (256 * p + l))
      ∧ ∀ p' < q, 256 * p' + l < n → s (256 * p' + l) ≤ s (256 * p + l) ∧ (s (256 * p' + l) = s (256 * p + l) → p ≤ p')
  | 0 => .inl ⟨rfl, fun p hp => absurd hp (Nat.not_lt_zero p)⟩
  | q + 1 => by
    by_cases hc : 256 * q + l < n ∧ (laneMax s w n l q).1 < s (256 * q + l)
    · have e : laneMax s w n l (q + 1) = (s (256 * q + l), w (256 * q + l)) := by rw [laneMax, if_pos hc]
      refine .inr ⟨q, Nat.lt_succ_self q, hc.1, lt_of_le_of_lt bot_le hc.2, e, fun p' hp' hn' => ?_⟩
      rcases Nat.lt_succ_iff_lt_or_eq.mp hp' with hlt | rfl
      · have hs : s (256 * p' + l) < s (256 * q + l) := by
          rcases laneMax_spec s w n l q with ⟨hb, hall⟩ | ⟨p, _, _, _, he, hall⟩
          · rw [hall p' hlt hn']; rw [hb] at hc; exact hc.2
          · refine lt_of_le_of_lt (hall p' hlt hn').1 ?_
            have := hc.2
            rwa [he] at this
        exact ⟨hs.le, fun he => absurd he hs.ne⟩
      · exact ⟨le_refl _, fun _ => le_refl _⟩
    · have e : laneMax s w n l (q + 1) = laneMax s w n l q := by rw [laneMax, if_neg hc]
      rw [e]
      rcases laneMax_spec s w n l q with ⟨hb, hall⟩ | ⟨p, hp, hpn, hpb, he, hall⟩
      · refine .inl ⟨hb, fun p' hp' hn' => ?_⟩
        rcases Nat.lt_succ_iff_lt_or_eq.mp hp' with hlt | rfl
        · exact hall p' hlt hn'
        · have : ¬ ((⊥ : EReal) < s (256 * p' + l)) := fun h => hc ⟨hn', by rw [hb]; exact h⟩
          exact not_bot_lt_iff.mp this
      · refine .inr ⟨p, Nat.lt_succ_of_lt hp, hpn, hpb, he, fun p' hp' hn' => ?_⟩
        rcases Nat.lt_succ_iff_lt_or_eq.mp hp' with hlt | rfl
        · exact hall p' hlt hn'
        · refine ⟨not_lt.mp fun h => hc ⟨hn', by rw [he]; exact h⟩, fun _ => hp.le⟩

/-- Once the chunks have covered the places, a lane holds at most the greatest value; one holding it is not empty and
    holds a place of its own, none before the first; and the first place's lane holds the first place. -/
theorem laneMax_first {s : ℕ → EReal} (w : ℕ → BitVec 32) {n k q : ℕ} (h : First s n k) (hb : ⊥ < s k) (hq : n ≤ 256 * q) :
    (∀ l, (laneMax s w n l q).1 ≤ s k)
    ∧ (∀ l, (laneMax s w n l q).1 = s k → ∃ i, k ≤ i ∧ i < n ∧ laneMax s w n l q = (s k, w i))
    ∧ laneMax s w n (k % 256) q = (s k, w k) := by
  have h2 : ∀ l, (laneMax s w n l q).1 = s k → ∃ p, k ≤ 256 * p + l ∧ 256 * p + l < n ∧ laneMax s w n l q = (s k, w (256 * p + l))
      ∧ ∀ p' < q, 256 * p' + l < n → s (256 * p' + l) = s k → p ≤ p' := fun l hl => by
    rcases laneMax_spec s w n l q with ⟨hbot, _⟩ | ⟨p, hp, hpn, hpb, he, hall⟩
    · rw [hbot] at hl; exact absurd hl hb.ne
    · have hs : s (256 * p + l) = s k := by rw [he] at hl; exact hl
      exact ⟨p, h.2.2 _ hpn hs, hpn, by rw [he, hs], fun p' hp' hn' hs' => (hall p' hp' hn').2 (hs'.trans hs.symm)⟩
  have h1 : ∀ l, (laneMax s w n l q).1 ≤ s k := fun l => by
    rcases laneMax_spec s w n l q with ⟨hbot, _⟩ | ⟨p, hp, hpn, hpb, he, hall⟩
    · rw [hbot]; exact bot_le
    · rw [he]; exact h.2.1 _ hpn
  refine ⟨h1, fun l hl => ?_, ?_⟩
  · obtain ⟨p, hk, hn, he, _⟩ := h2 l hl
    exact ⟨_, hk, hn, he⟩
  · have hkq : k / 256 < q := by have := h.1; omega
    have hdm : 256 * (k / 256) + k % 256 = k := Nat.div_add_mod k 256
    have hge : s k ≤ (laneMax s w n (k % 256) q).1 := by
      rcases laneMax_spec s w n (k % 256) q with ⟨hbot, hall⟩ | ⟨p, hp, hpn, hpb, he, hall⟩
      · have := hall _ hkq (by rw [hdm]; exact h.1)
        rw [hdm] at this
        rw [this]; exact bot_le
      · have := (hall _ hkq (by rw [hdm]; exact h.1)).1
        rw [hdm] at this
        rw [he]; exact this
    obtain ⟨p, hk, hn, he, hmin⟩ := h2 (k % 256) (le_antisymm (h1 _) hge)
    have hp := hmin _ hkq (by rw [hdm]; exact h.1) (by rw [hdm])
    have : 256 * p + k % 256 = k := by omega
    rw [he, this]

/-! ## A reduction that keeps the greater value, and of equal ones the lesser index -/

/-- One step of it. -/
noncomputable def keep (a b : EReal × BitVec 32) : EReal × BitVec 32 :=
  open Classical in if b.1 < a.1 ∨ (a.1 = b.1 ∧ a.2.slt b.2 = true) then a else b

/-- Over places below `2^31`, in any order, from `-∞`. -/
theorem keep_spec (f : ℕ → EReal) (l : List ℕ) (hl : ∀ i ∈ l, i < 2 ^ 31) :
    ((l.foldl (fun a i => keep a (f i, BitVec.ofNat 32 i)) (⊥, 0#32)).1 = ⊥ ∧ ∀ i ∈ l, f i = ⊥)
    ∨ ∃ k ∈ l, ⊥ < f k ∧ l.foldl (fun a i => keep a (f i, BitVec.ofNat 32 i)) (⊥, 0#32) = (f k, BitVec.ofNat 32 k)
      ∧ ∀ i ∈ l, f i ≤ f k ∧ (f i = f k → k ≤ i) := by
  induction l using List.reverseRecOn with
  | nil => exact .inl ⟨rfl, fun i hi => absurd hi List.not_mem_nil⟩
  | append_singleton l n ih =>
    have ih := ih fun i hi => hl i (List.mem_append_left _ hi)
    rw [List.foldl_append, List.foldl_cons, List.foldl_nil]
    have hmem : ∀ i, i ∈ l ++ [n] ↔ i ∈ l ∨ i = n := fun i => by simp
    have hslt : ∀ k ∈ l, ((BitVec.ofNat 32 k).slt (BitVec.ofNat 32 n) = true ↔ k < n) := fun k hk => by
      have h1 := hl k (List.mem_append_left _ hk)
      have h2 := hl n (by simp)
      rw [BitVec.slt_iff_toInt_lt, BitVec.toInt_eq_toNat_of_lt, BitVec.toInt_eq_toNat_of_lt]
      · rw [BitVec.toNat_ofNat, BitVec.toNat_ofNat, Nat.mod_eq_of_lt (by omega), Nat.mod_eq_of_lt (by omega)]
        exact Nat.cast_lt
      · rw [BitVec.toNat_ofNat, Nat.mod_eq_of_lt (by omega)]; omega
      · rw [BitVec.toNat_ofNat, Nat.mod_eq_of_lt (by omega)]; omega
    rcases ih with ⟨hb, hall⟩ | ⟨k, hk, hkb, he, hall⟩
    · generalize l.foldl (fun a i => keep a (f i, BitVec.ofNat 32 i)) (⊥, 0#32) = a at hb
      by_cases hn : f n = ⊥
      · refine .inl ⟨?_, fun i hi => ((hmem i).mp hi).elim (hall i) fun e => e ▸ hn⟩
        unfold keep
        split
        · exact hb
        · exact hn
      · have hn' : ⊥ < f n := bot_lt_iff_ne_bot.mpr hn
        refine .inr ⟨n, by simp, hn', ?_, fun i hi => ?_⟩
        · unfold keep
          rw [if_neg]
          rintro (h | h)
          · rw [hb] at h; exact absurd h not_lt_bot
          · rw [hb] at h; exact hn h.1.symm
        · rcases (hmem i).mp hi with h | rfl
          · exact ⟨by rw [hall i h]; exact bot_le, fun e => absurd ((hall i h).symm.trans e) hn'.ne⟩
          · exact ⟨le_refl _, fun _ => le_refl _⟩
    · rw [he]
      by_cases hc : f n < f k ∨ (f k = f n ∧ (BitVec.ofNat 32 k).slt (BitVec.ofNat 32 n) = true)
      · refine .inr ⟨k, (hmem k).mpr (.inl hk), hkb, if_pos hc, fun i hi => ?_⟩
        rcases (hmem i).mp hi with h | rfl
        · exact hall i h
        · rcases hc with h | ⟨h, h'⟩
          · exact ⟨h.le, fun e => absurd e h.ne⟩
          · exact ⟨h.ge, fun _ => ((hslt k hk).mp h').le⟩
      · have hc' := not_or.mp hc
        have hle : f k ≤ f n := not_lt.mp hc'.1
        refine .inr ⟨n, by simp, lt_of_lt_of_le hkb hle, if_neg hc, fun i hi => ?_⟩
        rcases (hmem i).mp hi with h | rfl
        · refine ⟨(hall i h).1.trans hle, fun e => ?_⟩
          have hkn : f k = f n := le_antisymm hle (e ▸ (hall i h).1)
          have hki : k ≤ i := (hall i h).2 (e.trans hkn.symm)
          have : ¬ k < n := fun hlt => hc'.2 ⟨hkn, (hslt k hk).mpr hlt⟩
          omega
        · exact ⟨le_refl _, fun _ => le_refl _⟩

/-- Over exactly the places below `n` it finds the first place of the greatest value, if that is above `-∞`. -/
theorem keep_first (f : ℕ → EReal) (l : List ℕ) {n k : ℕ} (hn : n ≤ 2 ^ 31) (hl : ∀ i, i ∈ l ↔ i < n) (h : First f n k)
    (hb : ⊥ < f k) : (l.foldl (fun a i => keep a (f i, BitVec.ofNat 32 i)) (⊥, 0#32)).2 = BitVec.ofNat 32 k := by
  rcases keep_spec f l fun i hi => lt_of_lt_of_le ((hl i).mp hi) hn with ⟨_, hall⟩ | ⟨k', hk', _, he, hall⟩
  · exact absurd (hall k ((hl k).mpr h.1)) hb.ne'
  · have h' : First f n k' :=
      ⟨(hl k').mp hk', fun i hi => (hall i ((hl i).mpr hi)).1, fun i hi => (hall i ((hl i).mpr hi)).2⟩
    rw [he, h.unique h']

end Cert.Sample
-- ==== Proof.Fold.lean ====
/- The kernel's accumulators over the reals: each lane holds its running maximum and the counter of its place. -/
module

public import proofs.«01_k».proof.Proof.Noise
public import proofs.«01_k».proof.Proof.First
public import Idealize.ShloMosaic.Lib.Pipeline.ValueKit

@[expose] public section

noncomputable section

namespace Cert.Sample

open Cert.Kernel Cert.Kernel.Gen
open Idealize.ShloMosaic Idealize.ShloMosaic.TcCoe

/-- The logit of a row at a column, `-∞` past the last. -/
def logit (x : S32x1000000.Idx → EReal) (r : Fin 32) (i : ℕ) : EReal :=
  if h : i < 1000000 then x (fun a => match a with | ⟨0, _⟩ => r | ⟨1, _⟩ => ⟨i, h⟩) else ⊥

/-- The counter of a row's column, the seed added. -/
def word (r : Fin 32) (i : ℕ) : BitVec 32 := BitVec.ofNat 32 (r.val * 1000000 + i + 42)

/-- The score of a row's column. -/
def sc (x : S32x1000000.Idx → EReal) (r : Fin 32) (i : ℕ) : EReal := logit x r i - (nz (F := Ideal) (word r i) : EReal)

/-! ## The mask -/

/-- The last block's mask, at a lane: the columns that the array has. -/
theorem mask_iff (c : Nat) (hc : c < 64) (l : Fin 256) :
    (BitVec.ofNat 32 l.val).slt (Scalar.subi 1000000#32 (off (BitVec.ofNat 32 61) c)) = true ↔ 256 * c + l.val < 576 := by
  have h2 : ∀ c : Fin 64, (Scalar.subi 1000000#32 (off (BitVec.ofNat 32 61) c.val)).toInt = 576 - 256 * c.val := by
    decide +kernel
  have h1 : ∀ l : Fin 256, (BitVec.ofNat 32 l.val).toInt = l.val := by decide +kernel
  rw [BitVec.slt_iff_toInt_lt, h1 l, h2 ⟨c, hc⟩]
  have : ((⟨c, hc⟩ : Fin 64).val : Int) = c := rfl
  omega

/-- Where block `t`'s chunk `c` is taken: at the array's columns, where its score beats the lane's maximum. -/
theorem ruleAt_at (t c : Nat) (ht : t < 62) (hc : c < 64) (X A : Vec Ideal S32x256 .f32) (j : S32x256.Idx) :
    ruleAt (F := Ideal) t (BitVec.ofNat 32 t) c X A j
      = if 256 * (64 * t + c) + (j 1).val < 1000000 then beats (BitVec.ofNat 32 t) c X A j else 0#1 := by
  have hl : (j 1).val < 256 := (j 1).isLt
  by_cases h : t < 61
  · rw [show ruleAt (F := Ideal) t = beats from if_pos h, if_pos (by omega)]
  · have h61 : t = 61 := by omega
    subst h61
    rw [show ruleAt (F := Ideal) 61 = beatsM from if_neg (by decide), beatsM_at]
    have hm := mask_iff c hc (j 1)
    by_cases hb : 256 * c + (j 1).val < 576
    · rw [if_pos (hm.mpr hb), if_pos (by omega)]
    · rw [if_neg fun h' => hb (hm.mp h'), if_neg (by omega)]

/-- A score beats a maximum where it is greater. -/
theorem beats_at (k : BitVec 32) (c : Nat) (X A : Vec Ideal S32x256 .f32) (j : S32x256.Idx) :
    beats k c X A j = Ideal.cmp .ogt (score (flat42 k c) X j) (A j) := rfl

/-- A selection by a greater-than, at extended reals. -/
theorem select_ogt {α : Type} (a b : EReal) (p q : α) :
    Scalar.select (Ideal.cmp .ogt a b) p q = open Classical in if b < a then p else q := by
  unfold Scalar.select Ideal.cmp
  by_cases h : b < a
  · simp [h]
  · simp [h]

/-! ## One chunk -/

variable (x : S32x1000000.Idx → EReal)

/-- The score of chunk `c` of a block holding the logits from column `16384 t` on, at a lane. -/
theorem score_block (t c : Nat) (hc : c < 64) (X : Vec Ideal S32x16384 .f32) (j : S32x256.Idx)
    (hX : ∀ j : S32x16384.Idx, 16384 * t + (j 1).val < 1000000 → X j = logit x (j 0) (16384 * t + (j 1).val))
    (hv : 256 * (64 * t + c) + (j 1).val < 1000000) :
    score (flat42 (BitVec.ofNat 32 t) c) (View.ld X (rc c)) j = sc x (j 0) (256 * (64 * t + c) + (j 1).val) := by
  have hi : ((rc c).idx j 1).val = 256 * c + (j 1).val := by rw [rc_idx, Nat.mod_eq_of_lt hc]
  have h0 : (rc c).idx j 0 = j 0 := Fin.ext (by
    show 0 + 1 * (j 0).val = (j 0).val
    omega)
  have he : 16384 * t + ((rc c).idx j 1).val = 256 * (64 * t + c) + (j 1).val := by rw [hi]; ring
  rw [score_at, noise_at, flat42_at, ld_rc, hX _ (by rw [he]; exact hv), he, h0]
  rfl

/-- A chunk's step at a lane. -/
theorem step_at (t c : Nat) (ht : t < 62) (hc : c < 64) (X : Vec Ideal S32x16384 .f32) (a : St Ideal) (j : S32x256.Idx)
    (hX : ∀ j : S32x16384.Idx, 16384 * t + (j 1).val < 1000000 → X j = logit x (j 0) (16384 * t + (j 1).val)) (q : ℕ)
    (hq : q = 64 * t + c)
    (ha : (a.1 j, a.2 j) = laneMax (sc x (j 0)) (word (j 0)) 1000000 (j 1).val q) :
    ((step (ruleAt t) (BitVec.ofNat 32 t) X c a).1 j, (step (ruleAt t) (BitVec.ofNat 32 t) X c a).2 j)
      = laneMax (sc x (j 0)) (word (j 0)) 1000000 (j 1).val (q + 1) := by
  subst hq
  have e1 : (step (ruleAt t) (BitVec.ofNat 32 t) X c a).1 j
      = Scalar.select (ruleAt (F := Ideal) t (BitVec.ofNat 32 t) c (View.ld X (rc c)) a.1 j)
        (score (flat42 (BitVec.ofNat 32 t) c) (View.ld X (rc c)) j) (a.1 j) := rfl
  have e2 : (step (ruleAt t) (BitVec.ofNat 32 t) X c a).2 j
      = Scalar.select (ruleAt (F := Ideal) t (BitVec.ofNat 32 t) c (View.ld X (rc c)) a.1 j)
        (flat42 (BitVec.ofNat 32 t) c j) (a.2 j) := rfl
  rw [e1, e2, ruleAt_at t c ht hc, laneMax, ← ha]
  by_cases hv : 256 * (64 * t + c) + (j 1).val < 1000000
  · rw [if_pos hv, beats_at, select_ogt, select_ogt, score_block x t c hc X j hX hv, flat42_at]
    by_cases hb : a.1 j < sc x (j 0) (256 * (64 * t + c) + (j 1).val)
    · rw [if_pos hb, if_pos hb, if_pos ⟨hv, hb⟩]; rfl
    · rw [if_neg hb, if_neg hb, if_neg fun h => hb h.2]
  · rw [if_neg hv, if_neg fun h => hv h.1]
    rfl

/-- A run of chunks at a lane. -/
theorem steps_at (t : Nat) (ht : t < 62) (X : Vec Ideal S32x16384 .f32) (j : S32x256.Idx)
    (hX : ∀ j : S32x16384.Idx, 16384 * t + (j 1).val < 1000000 → X j = logit x (j 0) (16384 * t + (j 1).val)) :
    ∀ (n c : Nat) (_ : c + n ≤ 64) (a : St Ideal)
      (_ : (a.1 j, a.2 j) = laneMax (sc x (j 0)) (word (j 0)) 1000000 (j 1).val (64 * t + c)),
      ((steps (ruleAt t) (BitVec.ofNat 32 t) X n c a).1 j, (steps (ruleAt t) (BitVec.ofNat 32 t) X n c a).2 j)
        = laneMax (sc x (j 0)) (word (j 0)) 1000000 (j 1).val (64 * t + (c + n))
  | 0, _, _, _, ha => ha
  | n + 1, c, hc, a, ha => by
    unfold steps
    have h := step_at x t c ht (by omega) X a j hX _ rfl ha
    have := steps_at t ht X j hX n (c + 1) (by omega) _ h
    rwa [show c + 1 + n = c + (n + 1) by omega] at this

/-! ## The blocks -/

variable (m : (ℓ : Loc nD τ sig) → Buf (Elt Ideal) ℓ)

/-- A block's place in the array. -/
theorem index_val : ∀ t : Fin grid0.N, win0_0.index t 0 = 0 ∧ win0_0.index t 1 = t.val := by
  decide +kernel

/-- Block `t` holds the logits from column `16384 t` on. -/
theorem block_at (c : Dev nD) (t : Fin cfg0.N) (j : S32x16384.Idx) (hj : 16384 * t.val + (j 1).val < 1000000) :
    blockAt m c t j = logit (m ((c.tc : Thread nD τ).loc main_arg0)) (j 0) (16384 * t.val + (j 1).val) := by
  have hw : (j 1).val < width t.val := by
    have h1 : (j 1).val < 16384 := (j 1).isLt
    have h2 : t.val < 62 := t.isLt
    unfold width
    split <;> omega
  have hm : win0_0.moved (grid0.coords t) j = true := (win0_0.moved_iff _ _).mpr fun a => by
    have h := xsize_width t
    match a with
    | ⟨0, _⟩ => exact h.1 ▸ (j 0).isLt
    | ⟨1, _⟩ => exact h.2 ▸ hw
  unfold blockAt Pipeline.Window.fill logit
  rw [dif_pos hm, dif_pos hj]
  show m ((c.tc : Thread nD τ).loc main_arg0) ((win0_0.rect t).emb _) = _
  refine congrArg _ (funext fun a => Fin.ext ?_)
  match a with
  | ⟨0, _⟩ =>
    refine (win0_0.rect_emb_val t _ 0).trans ?_
    rw [(index_val t).1]
    show 0 * _ + (j 0).val = (j 0).val
    omega
  | ⟨1, _⟩ =>
    refine (win0_0.rect_emb_val t _ 1).trans ?_
    rw [(index_val t).2]
    show t.val * 16384 + (j 1).val = 16384 * t.val + (j 1).val
    omega

/-- The accumulators before point `t`, at a lane. -/
theorem accAt_at (c : Dev nD) (j : S32x256.Idx) : ∀ t : ℕ, t ≤ 62 →
    ((accAt m c t).1 j, (accAt m c t).2 j)
      = laneMax (sc (m ((c.tc : Thread nD τ).loc main_arg0)) (j 0)) (word (j 0)) 1000000 (j 1).val (64 * t)
  | 0, _ => Prod.ext ofBits_bot rfl
  | t + 1, ht => by
    have ht' : t < 62 := ht
    have ih := accAt_at c j t (by omega)
    rw [accAt, dif_pos ht', stepB]
    have h0 : (if t = 0 then (acc0 : St Ideal) else accAt m c t) = accAt m c t := by
      split
      · rename_i h; subst h; rfl
      · rfl
    rw [h0]
    exact steps_at _ t ht' _ j (fun j' hj' => block_at m c ⟨t, ht'⟩ j' hj') 64 0 (by decide) _ ih

end Cert.Sample
-- ==== Proof.Pick.lean ====
/- The last reduction over the reals: per row the first column of the greatest score. -/
module

public import proofs.«01_k».proof.Proof.Fold
public import Idealize.ShloMosaic.Lib.ValueLayoutCasts

@[expose] public section

noncomputable section

namespace Cert.Sample

open Cert.Kernel Cert.Kernel.Gen
open Idealize.ShloMosaic Idealize.ShloMosaic.TcCoe

/-- A row's values as a column, at a row. -/
theorem cast_col {α : Type} (v : S32.Idx → α) (h : S32.ShapeCasts S32x1) (i : S32x1.Idx) :
    shapeCast S32x1 v h i = v (ValueIdx.ix1 (i 0)) := by
  conv_lhs => rw [ValueIdx.eq_ix2 i]
  exact ValueIdx.shapeCast_a_a1_apply v h (i 0) (i 1)

/-- The lesser of two signed words, as integers. -/
theorem toInt_minsi (a b : BitVec 32) : (IKind.minsi.op a b).toInt = min a.toInt b.toInt := by
  show (IntOp.minsi a b).toInt = _
  unfold IntOp.minsi
  by_cases h : a.slt b = true
  · rw [if_pos h]
    rw [BitVec.slt_iff_toInt_lt] at h
    exact (min_eq_left h.le).symm
  · rw [if_neg h]
    rw [BitVec.slt_iff_toInt_lt] at h
    exact (min_eq_right (not_lt.mp h)).symm

/-- The index of a row's lane. -/
abbrev at2 (r : Fin 32) (l : Fin 256) : S32x256.Idx := ValueIdx.ix2 r l

/-- A row's lanes are the indices that the reduction brings together. -/
theorem lift_eq (h : S32x256.Reduces [1] S32) (r : Fin 32) (l : Fin 256) : h.lift (ValueIdx.ix1 r) l = at2 r l := by
  funext a
  match a with
  | ⟨0, _⟩ => rfl
  | ⟨1, _⟩ => rfl

/-- The signed minimum of a row's lanes is a word that is among them and not above any. -/
theorem min_lanes (v : IVec S32x256 32) (r : Fin 32) (w : BitVec 32) (hle : ∀ l, w.toInt ≤ (v (at2 r l)).toInt) (l₀ : Fin 256)
    (h₀ : v (at2 r l₀) = w) :
    multiReductionI .minsi [1] S32 v 2147483647#32 reduces_S32x256_S32 rfl (ValueIdx.ix1 r) = w := by
  classical
  refine (multiReductionI_eq_fold .minsi v _ reduces_S32x256_S32 rfl (ValueIdx.ix1 r)).trans ?_
  refine (Shape.Reduces.fold_filter_drop_single reduces_S32x256_S32 IKind.minsi.op _ v (ValueIdx.ix1 r)).trans ?_
  apply BitVec.eq_of_toInt_eq
  rw [← Finset.fold_hom (op := IKind.minsi.op) (op' := min) (m := BitVec.toInt) toInt_minsi]
  apply le_antisymm
  · rw [Finset.fold_min_le]
    refine .inr ⟨l₀, Finset.mem_univ _, ?_⟩
    show (v (reduces_S32x256_S32.lift (ValueIdx.ix1 r) l₀)).toInt ≤ _
    rw [lift_eq, h₀]
  · rw [Finset.le_fold_min]
    refine ⟨?_, fun l _ => ?_⟩
    · have := BitVec.toInt_lt (x := w)
      show w.toInt ≤ 2147483647
      omega
    · exact le_of_le_of_eq (hle l) (congrArg (fun j => (v j).toInt) (lift_eq reduces_S32x256_S32 r l).symm)

/-- The maximum of a row's lanes. -/
theorem max_lanes (A : Vec Ideal S32x256 .f32) (r : Fin 32) (M : EReal) (hle : ∀ l, A (at2 r l) ≤ M) (l₀ : Fin 256)
    (h₀ : A (at2 r l₀) = M) :
    multiReduction (F := Ideal) .maximumf [1] S32 A 0xFF800000#32 reduces_S32x256_S32 (.inl rfl) rfl (ValueIdx.ix1 r) = M := by
  refine (Ideal.multiReduction_maximumf_single A _ reduces_S32x256_S32 (.inl rfl) rfl (ValueIdx.ix1 r)).trans ?_
  apply le_antisymm
  · rw [Finset.fold_max_le]
    refine ⟨?_, fun l _ => ?_⟩
    · exact le_of_eq_of_le ofBits_bot bot_le
    · exact le_of_eq_of_le (congrArg A (lift_eq reduces_S32x256_S32 r l)) (hle l)
  · rw [Finset.le_fold_max]
    refine .inr ⟨l₀, Finset.mem_univ _, ?_⟩
    show M ≤ A (reduces_S32x256_S32.lift (ValueIdx.ix1 r) l₀)
    rw [lift_eq, h₀]

/-- What the last reduction minimises, at a lane: the lane's column where it holds the row's maximum. -/
theorem pick_lane (A : Vec Ideal S32x256 .f32) (C : Vec Ideal S32x256 .i32) (M : FVec Ideal S32 .f32) (r : Fin 32) (l : Fin 256) :
    select (cmpf .oeq A (broadcastTo S32x256 (shapeCast S32x1 M shapeCasts_S32_S32x1) broadcasts_S32x1_S32x256))
      (subi (subi C rowBase) (bc 42#32)) (bc 1073741824#32) (at2 r l)
      = open Classical in if A (at2 r l) = M (ValueIdx.ix1 r) then C (at2 r l) - BitVec.ofNat 32 (r.val * 1000000) - 42#32 else 1073741824#32 := by
  have hM : broadcastTo S32x256 (shapeCast S32x1 M shapeCasts_S32_S32x1) broadcasts_S32x1_S32x256 (at2 r l) = M (ValueIdx.ix1 r) := by
    refine (cast_col M shapeCasts_S32_S32x1 _).trans ?_
    rfl
  have h1 : select (cmpf .oeq A (broadcastTo S32x256 (shapeCast S32x1 M shapeCasts_S32_S32x1) broadcasts_S32x1_S32x256))
      (subi (subi C rowBase) (bc 42#32)) (bc 1073741824#32) (at2 r l)
      = Scalar.select (Ideal.cmp .oeq (A (at2 r l)) (broadcastTo S32x256 (shapeCast S32x1 M shapeCasts_S32_S32x1) broadcasts_S32x1_S32x256 (at2 r l)))
        (C (at2 r l) - rowBase (at2 r l) - 42#32) 1073741824#32 := rfl
  rw [h1, hM, show rowBase (at2 r l) = BitVec.ofNat 32 (r.val * 1000000) from rowBase_at _]
  unfold Scalar.select Ideal.cmp
  by_cases h : A (at2 r l) = M (ValueIdx.ix1 r)
  · simp [h]
  · simp [h]

/-- A counter less its row's first and the seed is its column. -/
theorem word_col (r : Fin 32) (i : ℕ) : word r i - BitVec.ofNat 32 (r.val * 1000000) - 42#32 = BitVec.ofNat 32 i := by
  unfold word
  rw [BitVec.ofNat_add, BitVec.ofNat_add]
  generalize BitVec.ofNat 32 (r.val * 1000000) = a
  rw [show a + BitVec.ofNat 32 i + BitVec.ofNat 32 42 = BitVec.ofNat 32 i + 42#32 + a by
    rw [BitVec.add_assoc, BitVec.add_comm a], BitVec.add_sub_cancel, BitVec.add_sub_cancel]

/-- A column's word, as an integer. -/
theorem toInt_col {i : ℕ} (h : i < 1000000) : (BitVec.ofNat 32 i).toInt = i := by
  rw [BitVec.toInt_eq_toNat_of_lt] <;> rw [BitVec.toNat_ofNat, Nat.mod_eq_of_lt (by omega)]
  omega

variable (m : (ℓ : Loc nD τ sig) → Buf (Elt Ideal) ℓ)

/-- The accumulators before point `t`, at a row's lane. -/
theorem accAt_lane (c : Dev nD) (r : Fin 32) (l : Fin 256) (t : ℕ) (ht : t ≤ 62) :
    ((accAt m c t).1 (at2 r l), (accAt m c t).2 (at2 r l))
      = laneMax (sc (m ((c.tc : Thread nD τ).loc main_arg0)) r) (word r) 1000000 l.val (64 * t) :=
  accAt_at m c (at2 r l) t ht

/-- The last reduction: where a row's lanes hold running maxima of a score that covers every column, its value there is
    the first column whose score is greatest, if that score is above `-∞`. -/
theorem pick_first (a : St Ideal) (s : ℕ → EReal) (r : Fin 32) (q : ℕ) (hq : 1000000 ≤ 256 * q)
    (ha : ∀ l : Fin 256, (a.1 (at2 r l), a.2 (at2 r l)) = laneMax s (word r) 1000000 l.val q)
    (i : S32x1.Idx) (hi : (i 0 : Fin 32) = r) (k : ℕ) (hk : First s 1000000 k) (hb : ⊥ < s k) :
    pick (F := Ideal) a.1 a.2 i = BitVec.ofNat 32 k := by
  have h1 : ∀ l : Fin 256, a.1 (at2 r l) = (laneMax s (word r) 1000000 l.val q).1 := fun l => congrArg Prod.fst (ha l)
  have h2 : ∀ l : Fin 256, a.2 (at2 r l) = (laneMax s (word r) 1000000 l.val q).2 := fun l => congrArg Prod.snd (ha l)
  obtain ⟨hle, hatt, hfirst⟩ := laneMax_first (word r) hk hb hq
  have hl₀ : k % 256 < 256 := Nat.mod_lt _ (by decide)
  have hk6 : k < 1000000 := hk.1
  have hat : a.1 (at2 r ⟨k % 256, hl₀⟩) = s k := (h1 _).trans (congrArg Prod.fst hfirst)
  have hat2 : a.2 (at2 r ⟨k % 256, hl₀⟩) = word r k := (h2 _).trans (congrArg Prod.snd hfirst)
  have hmax := max_lanes a.1 r (s k) (fun l => by rw [h1]; exact hle _) ⟨k % 256, hl₀⟩ hat
  unfold pick
  rw [cast_col, show (i 0 : Fin 32) = r from hi]
  generalize multiReduction (F := Ideal) .maximumf [1] S32 a.1 0xFF800000#32 reduces_S32x256_S32 (.inl rfl) rfl = M at hmax
  refine min_lanes _ r _ (fun l => ?_) ⟨k % 256, hl₀⟩ ?_
  · rw [pick_lane, hmax, toInt_col hk6]
    split
    · rename_i he
      obtain ⟨p, hp, hp6, hr⟩ := hatt l.val (by rw [← h1]; exact he)
      rw [h2, hr, word_col, toInt_col hp6]
      exact_mod_cast hp
    · show (k : ℤ) ≤ 1073741824
      omega
  · rw [pick_lane, hmax, if_pos hat, hat2, word_col]

/-- The kernel's result: at each row the first column whose score is greatest, if that score is above `-∞`. -/
theorem result_at (c : Dev nD) (i : S32x1.Idx) (r : Fin 32) (hi : (i 0 : Fin 32) = r) (k : ℕ)
    (hk : First (sc (m ((c.tc : Thread nD τ).loc main_arg0)) r) 1000000 k)
    (hb : ⊥ < sc (m ((c.tc : Thread nD τ).loc main_arg0)) r k) : result m c i = BitVec.ofNat 32 k := by
  unfold result
  exact pick_first _ _ r (64 * (61 + 1)) (by decide) (fun l => accAt_lane m c r l (61 + 1) (le_refl _)) i hi k hk hb

end Cert.Sample
-- ==== Proof.RefMath.lean ====
/- The reference's sample over the reals: per row the first column of the greatest score, if the row's maximum is finite. -/
module

public import proofs.«01_k».proof.Proof.Pick

@[expose] public section

noncomputable section

namespace Cert.Ref

open Cert.ReferenceIdeal Cert.ReferenceIdeal.Gen Cert.Sample
open Idealize.ShloMosaic Idealize.ShloMosaic.TcCoe

/-! ## Numbers -/

/-- Taking a real off both sides keeps the order. -/
theorem sub_le_sub_real (a b : EReal) (K : ℝ) : a - (K : EReal) ≤ b - (K : EReal) ↔ a ≤ b := by
  constructor
  · intro h
    have h2 := add_le_add_left h (K : EReal)
    rwa [EReal.sub_add_cancel, EReal.sub_add_cancel] at h2
  · intro h
    exact EReal.sub_le_sub h (le_refl _)

/-- A number above `-∞` less a real is above `-∞`. -/
theorem bot_lt_sub_real {a : EReal} (K : ℝ) (h : ⊥ < a) : ⊥ < a - (K : EReal) := by
  rw [bot_lt_iff_ne_bot] at h ⊢
  intro e
  apply h
  have h2 := congrArg (fun z => z + (K : EReal)) e
  simpa [EReal.sub_add_cancel] using h2

/-- The exponential of a logit less the row's maximum is a nonnegative real, and positive if the logit is above `-∞`. -/
theorem exp_real (x : EReal) (M : ℝ) (hx : x ≠ ⊤) :
    ∃ e : ℝ, Ideal.exp (x - (M : EReal)) = (e : EReal) ∧ 0 ≤ e ∧ (⊥ < x → 0 < e) := by
  induction x with
  | top => exact absurd rfl hx
  | bot => exact ⟨0, by rw [EReal.bot_sub]; rfl, le_refl _, fun h => absurd h (lt_irrefl _)⟩
  | coe u =>
    refine ⟨Real.exp (u - M), ?_, (Real.exp_pos _).le, fun _ => Real.exp_pos _⟩
    rw [← EReal.coe_sub]
    rfl

/-- The logarithm of a softmax is the logit less a number of the row's. -/
theorem log_softmax (x : EReal) (M S : ℝ) (hS : 0 < S) (hx : x ≠ ⊤) :
    Ideal.log (Ideal.div (Ideal.exp (x - (M : EReal))) (S : EReal)) = x - ((M + Real.log S : ℝ) : EReal) := by
  have hS0 : (S : EReal) ≠ 0 := by exact_mod_cast hS.ne'
  unfold Ideal.div
  rw [if_neg hS0]
  induction x with
  | top => exact absurd rfl hx
  | bot =>
    rw [EReal.bot_sub, EReal.bot_sub, show Ideal.exp ⊥ = ((0 : ℝ) : EReal) from rfl, ← EReal.coe_inv, ← EReal.coe_mul, zero_mul]
    show (if (0 : ℝ) ≤ 0 then (⊥ : EReal) else _) = ⊥
    rw [if_pos (le_refl _)]
  | coe u =>
    have hp : 0 < Real.exp (u - M) * S⁻¹ := mul_pos (Real.exp_pos _) (inv_pos.mpr hS)
    rw [← EReal.coe_sub, ← EReal.coe_sub, show Ideal.exp ((u - M : ℝ) : EReal) = ((Real.exp (u - M) : ℝ) : EReal) from rfl,
      ← EReal.coe_inv, ← EReal.coe_mul]
    show (if Real.exp (u - M) * S⁻¹ ≤ 0 then (⊥ : EReal) else ((Real.log (Real.exp (u - M) * S⁻¹) : ℝ) : EReal)) = _
    rw [if_neg (not_le.mpr hp), Real.log_mul (Real.exp_pos _).ne' (inv_pos.mpr hS).ne', Real.log_exp, Real.log_inv]
    congr 1
    ring

/-- A noisy log-probability is the score less a number of the row's. -/
theorem add_noise (x : EReal) (v K : ℝ) (hx : x ≠ ⊤) :
    -(v : EReal) + (x - (K : EReal)) = x - (v : EReal) - (K : EReal) := by
  induction x with
  | top => exact absurd rfl hx
  | bot => simp
  | coe u =>
    rw [← EReal.coe_sub, ← EReal.coe_sub, ← EReal.coe_neg, ← EReal.coe_add, ← EReal.coe_sub]
    congr 1
    ring

/-! ## A row's cells -/

/-- The index of a row's column. -/
def cell (r : Fin 32) (i : ℕ) (h : i < 1000000) : S32x1000000.Idx := fun a => match a with | ⟨0, _⟩ => r | ⟨1, _⟩ => ⟨i, h⟩

/-- An index of a row is the row's cell at its column. -/
theorem cell_eq (j : S32x1000000.Idx) (r : Fin 32) (h : (j 0 : Fin 32) = r) : j = cell r (j 1).val (j 1).isLt := by
  subst h
  funext a
  match a with
  | ⟨0, _⟩ => rfl
  | ⟨1, _⟩ => rfl

/-- A row's logit is the array's value at the row's cell. -/
theorem logit_cell (x : S32x1000000.Idx → EReal) (r : Fin 32) (i : ℕ) (h : i < 1000000) : logit x r i = x (cell r i h) := by
  unfold logit
  rw [dif_pos h]
  congr 1

/-- The columns are what a reduction of a row brings together. -/
theorem reduces_row : S32x1000000.Reduces [1] S32 := by decide

/-- What a reduction of a row brings together are the row's cells. -/
theorem lift_cell (r : Fin 32) (l : Fin 1000000) : reduces_row.lift (ValueIdx.ix1 r) l = cell r l.val l.isLt := by
  funext a
  match a with
  | ⟨0, _⟩ => rfl
  | ⟨1, _⟩ => rfl

/-! ## The row's maximum and sum -/

/-- The maximum of every row. -/
def top (x : FVec Ideal S32x1000000 .f32) : FVec Ideal S32 .f32 :=
  Host.reduce FloatOps.maximumf x (constant (F := Ideal) S_ .f32 0xFF800000#32) reducesTo_S32x1000000_S32_d1 h_S_

/-- A row's maximum, as a fold over the row's columns. -/
theorem top_fold (x : FVec Ideal S32x1000000 .f32) (r : Fin 32) :
    top x (ValueIdx.ix1 r) = Finset.univ.fold (max : EReal → EReal → EReal) ⊥ fun l : Fin 1000000 => x (cell r l.val l.isLt) := by
  unfold top
  refine (Host.reduce_eq_fold_single (max : EReal → EReal → EReal) x _ _ reduces_row _ (ValueIdx.ix1 r)).trans ?_
  refine congrArg₂ (fun b f => Finset.univ.fold (max : EReal → EReal → EReal) b f) ofBits_bot ?_
  funext l
  exact congrArg x (lift_cell r l)

/-- No logit of a row is above the row's maximum. -/
theorem le_top (x : FVec Ideal S32x1000000 .f32) (r : Fin 32) (i : ℕ) (h : i < 1000000) : x (cell r i h) ≤ top x (ValueIdx.ix1 r) := by
  rw [top_fold, Finset.le_fold_max]
  exact .inr ⟨⟨i, h⟩, Finset.mem_univ _, le_refl _⟩

/-- A row whose maximum is above `-∞` has a logit above `-∞`. -/
theorem exists_above (x : FVec Ideal S32x1000000 .f32) (r : Fin 32) (hb : ⊥ < top x (ValueIdx.ix1 r)) :
    ∃ (i : ℕ) (h : i < 1000000), ⊥ < (x (cell r i h) : EReal) := by
  by_contra hn
  push Not at hn
  refine absurd hb (not_lt.mpr ?_)
  rw [top_fold, Finset.fold_max_le]
  exact ⟨le_refl _, fun l _ => hn l.val l.isLt⟩

/-- The greater of `-∞` and a row's value is the value. -/
theorem max_bot (y : FVec Ideal S32 .f32) (j : S32.Idx) :
    maximumf (F := Ideal) (broadcastInDim S32 ![] bcast_S_S32 (constant (F := Ideal) S_ .f32 0xFF800000#32)) y j = y j := by
  show max (Ideal.ofBits .f32 0xFF800000#32) (y j : EReal) = y j
  rw [ofBits_bot]
  exact max_eq_right bot_le

/-- The maximum that the softmax takes off is the row's. -/
theorem rowMax_at (x : FVec Ideal S32x1000000 .f32) (j : S32.Idx) : rowMax x j = top x j := by
  unfold rowMax top
  exact max_bot _ j

/-- Multiplying the logits by one leaves them. -/
theorem scaled_eq (x : FVec Ideal S32x1000000 .f32) : scaled x = x := by
  funext j
  show (x j : EReal) * Ideal.ofBits .f32 0x3F800000#32 = x j
  rw [ofBits_one, mul_one]

/-- A column of row values at a row's cell. -/
theorem bcol_cell (k : FVec Ideal S32 .f32) (r : Fin 32) (i : ℕ) (h : i < 1000000) : bcol k (cell r i h) = k (ValueIdx.ix1 r) :=
  congrArg k (by funext a; match a with | ⟨0, _⟩ => rfl)

/-- An exponential of a difference, at an index. -/
theorem exp_sub_at (x y : FVec Ideal S32x1000000 .f32) (j : S32x1000000.Idx) :
    Host.exp (subf x y) j = Ideal.exp ((x j : EReal) - (y j : EReal)) := rfl

/-- A logarithm of a quotient, at an index. -/
theorem log_div_at (x y : FVec Ideal S32x1000000 .f32) (j : S32x1000000.Idx) :
    Host.log (Host.divf x y) j = Ideal.log (Ideal.div (x j) (y j)) := rfl

/-- The exponentials at a row's cell. -/
theorem exps_cell (x : FVec Ideal S32x1000000 .f32) (r : Fin 32) (M : ℝ) (hM : top x (ValueIdx.ix1 r) = (M : EReal)) (i : ℕ)
    (h : i < 1000000) : exps x (cell r i h) = Ideal.exp ((x (cell r i h) : EReal) - (M : EReal)) := by
  unfold exps
  rw [exp_sub_at, bcol_cell, rowMax_at, hM]

/-- The sum of a row's exponentials is a positive real. -/
theorem sum_real (x : FVec Ideal S32x1000000 .f32) (r : Fin 32) (M : ℝ) (hM : top x (ValueIdx.ix1 r) = (M : EReal)) :
    ∃ S : ℝ, 0 < S ∧ Host.reduceAdd (exps x) (constant (F := Ideal) S_ .f32 0x00000000#32) reducesTo_S32x1000000_S32_d1 h_S_ (ValueIdx.ix1 r)
      = (S : EReal) := by
  have hx : ∀ l : Fin 1000000, x (cell r l.val l.isLt) ≠ (⊤ : EReal) := fun l e => by
    have := le_top x r l.val l.isLt
    rw [e, hM] at this
    exact absurd this (not_le.mpr (EReal.coe_lt_top M))
  choose e he h0 hp using fun l : Fin 1000000 => exp_real (x (cell r l.val l.isLt)) M (hx l)
  refine ⟨∑ l, e l, ?_, ?_⟩
  · obtain ⟨i, hi, hb⟩ := exists_above x r (by rw [hM]; exact EReal.bot_lt_coe M)
    exact Finset.sum_pos' (fun l _ => h0 l) ⟨⟨i, hi⟩, Finset.mem_univ _, hp ⟨i, hi⟩ hb⟩
  · refine (Ideal.hostReduceAdd_single _ reduces_row (exps x) _ (ValueIdx.ix1 r)).trans ?_
    have hz : Ideal.ofBits .f32 0x00000000#32 = (0 : EReal) := Ideal.ofBits_zero_f32
    refine (congrArg₂ (fun a b : EReal => a + b) hz (Finset.sum_congr rfl fun l _ =>
      (congrArg (exps x) (lift_cell r l)).trans ((exps_cell x r M hM l.val l.isLt).trans (he l)))).trans ?_
    rw [zero_add]
    exact (map_sum (⟨⟨Real.toEReal, EReal.coe_zero⟩, EReal.coe_add⟩ : ℝ →+ EReal) e Finset.univ).symm

/-- The reference's log-probabilities at a row are the logits less a number of the row's. -/
theorem logp_row (x : FVec Ideal S32x1000000 .f32) (r : Fin 32) (M : ℝ) (hM : top x (ValueIdx.ix1 r) = (M : EReal)) :
    ∃ K : ℝ, ∀ (i : ℕ) (h : i < 1000000), logp x (cell r i h) = (x (cell r i h) : EReal) - (K : EReal) := by
  obtain ⟨S, hS, hsum⟩ := sum_real x r M hM
  refine ⟨M + Real.log S, fun i h => ?_⟩
  have hx : x (cell r i h) ≠ (⊤ : EReal) := fun e => by
    have := le_top x r i h
    rw [e, hM] at this
    exact absurd this (not_le.mpr (EReal.coe_lt_top M))
  rw [← log_softmax _ M S hS hx]
  unfold logp
  rw [log_div_at, bcol_cell, hsum, exps_cell x r M hM]

/-! ## The last reduction -/

/-- The reference's reduction keeps the greater value, of equal ones the one of the lesser index. -/
theorem reducer_eq (a b : EReal × BitVec 32) : reducer_argmax_f32_i32 (F := Ideal) a b = keep a b := by
  obtain ⟨a1, a2⟩ := a
  obtain ⟨b1, b2⟩ := b
  have e : reducer_argmax_f32_i32 (F := Ideal) (a1, a2) (b1, b2)
      = (Scalar.select (IntOp.ori (Ideal.cmp .ogt a1 b1) (Ideal.cmp .une a1 a1)) a1 b1,
        Scalar.select (IntOp.ori (IntOp.ori (Ideal.cmp .ogt a1 b1) (Ideal.cmp .une a1 a1))
          (IntOp.andi (Ideal.cmp .oeq a1 b1) (IntOp.cmpi .slt a2 b2))) a2 b2) := rfl
  rw [e]
  unfold keep Scalar.select IntOp.ori IntOp.andi IntOp.cmpi Ideal.cmp
  by_cases h1 : b1 < a1
  · simp [h1, h1.ne']
  · by_cases h2 : a1 = b1
    · subst h2
      cases h3 : a2.slt b2 <;> simp [h3]
    · simp [h1, h2]

/-- The columns of the indices that a row's reduction brings together. -/
def cols (r : Fin 32) : List ℕ :=
  ((List.finRange S32x1000000.numel).filter fun n =>
    reducesTo_S32x1000000_S32_d1.drop (S32x1000000.rowMajor.symm n) = ValueIdx.ix1 r).map fun n => (S32x1000000.rowMajor.symm n 1).val

/-- An index falls to the row it is of. -/
theorem drop_iff (j : S32x1000000.Idx) (r : Fin 32) :
    reducesTo_S32x1000000_S32_d1.drop j = ValueIdx.ix1 r ↔ (j 0 : Fin 32) = r := by
  rw [Shape.ReducesTo.drop_eq_drop _ reduces_row]
  constructor
  · intro h
    have h1 := reduces_row.lift_drop j
    have h2 : reduces_row.lift (reduces_row.drop j) (j 1) = cell r (j 1).val (j 1).isLt :=
      (congrArg (fun i => reduces_row.lift i (j 1)) h).trans (lift_cell r (j 1))
    exact congrFun (h1.symm.trans h2) 0
  · intro h
    have h1 : j = reduces_row.lift (ValueIdx.ix1 r) (j 1) := (cell_eq j r h).trans (lift_cell r (j 1)).symm
    exact (congrArg reduces_row.drop h1).trans (reduces_row.drop_lift _ _)

/-- They are the row's columns. -/
theorem mem_cols (r : Fin 32) (i : ℕ) : i ∈ cols r ↔ i < 1000000 := by
  unfold cols
  constructor
  · intro h
    obtain ⟨n, _, rfl⟩ := List.mem_map.mp h
    exact (S32x1000000.rowMajor.symm n 1).isLt
  · intro h
    refine List.mem_map.mpr ⟨S32x1000000.rowMajor (cell r i h), List.mem_filter.mpr ⟨List.mem_finRange _, ?_⟩, ?_⟩
    · rw [Equiv.symm_apply_apply, decide_eq_true_iff, drop_iff]
      rfl
    · rw [Equiv.symm_apply_apply]
      rfl

/-- A row's index holds the value at its column and its column. -/
theorem pair_at (z : FVec Ideal S32x1000000 .f32) (r : Fin 32) (j : S32x1000000.Idx) (h : (j 0 : Fin 32) = r) :
    (z j, iotaInDim S32x1000000 32 1 j) = (logit z r (j 1).val, BitVec.ofNat 32 (j 1).val) := by
  rw [logit_cell z r (j 1).val (j 1).isLt, ← cell_eq j r h]
  rfl

/-- What a row's reduction brings together: every column's value and its index. -/
theorem fiber_eq (z : FVec Ideal S32x1000000 .f32) (r : Fin 32) :
    Host.argReduceFiber z (iotaInDim S32x1000000 32 1) reducesTo_S32x1000000_S32_d1 (ValueIdx.ix1 r)
      = (cols r).map fun i => (logit z r i, BitVec.ofNat 32 i) := by
  unfold Host.argReduceFiber cols
  rw [List.map_map]
  refine List.map_congr_left fun n hn => ?_
  have hr := (drop_iff _ r).mp (decide_eq_true_iff.mp (List.mem_filter.mp hn).2)
  exact pair_at z r _ hr

/-- A reduction of every row by any rule is a fold over a list of the row's columns. -/
theorem arg_fold (f : Ideal .f32 × BitVec 32 → Ideal .f32 × BitVec 32 → Ideal .f32 × BitVec 32) (z : FVec Ideal S32x1000000 .f32)
    (b : S_.Idx → Ideal .f32) (d : S_.Idx → BitVec 32) (r : Fin 32) :
    ∃ l : List ℕ, (∀ i, i ∈ l ↔ i < 1000000) ∧
      Host.argReduce f z (iotaInDim S32x1000000 32 1) b d reducesTo_S32x1000000_S32_d1 h_S_ (ValueIdx.ix1 r)
        = (l.map fun i => (logit z r i, BitVec.ofNat 32 i)).foldl f (b (Shape.Idx.first h_S_), d (Shape.Idx.first h_S_)) := by
  refine ⟨cols r, mem_cols r, ?_⟩
  rw [Ideal.argReduce_eq_reduce2, Host.reduce2_eq_foldl_fiber, fiber_eq]

/-- A row's second word. -/
theorem second_at {α β : Type} (p : S32.Idx → α × β) (j : S32.Idx) (w : β) (h : (p j).2 = w) : second p j = w := h

/-- The reference's last reduction at a row, by any rule and over any first pair. -/
theorem arg_first (f : Ideal .f32 × BitVec 32 → Ideal .f32 × BitVec 32 → Ideal .f32 × BitVec 32) (hf : f = keep)
    (z : FVec Ideal S32x1000000 .f32) (b : S_.Idx → Ideal .f32) (d : S_.Idx → BitVec 32)
    (hb0 : (b (Shape.Idx.first h_S_) : EReal) = ⊥) (hd0 : d (Shape.Idx.first h_S_) = 0#32)
    (r : Fin 32) (k : ℕ) (hk : First (logit z r) 1000000 k) (hb : ⊥ < logit z r k) :
    second (Host.argReduce f z (iotaInDim S32x1000000 32 1) b d reducesTo_S32x1000000_S32_d1 h_S_) (ValueIdx.ix1 r) = BitVec.ofNat 32 k := by
  obtain ⟨l, hl, e⟩ := arg_fold f z b d r
  refine second_at _ _ _ ?_
  rw [e, hb0, hd0, hf, List.foldl_map]
  exact keep_first (logit z r) l (by decide) hl hk hb

/-- The reference's rule keeps the greater. -/
theorem rule_eq : reducer_argmax_f32_i32 (F := Ideal) = keep := by
  funext a b
  exact reducer_eq a b

/-- The reference's last reduction: at each row the first column whose value is greatest, if that value is above `-∞`. -/
theorem best_at (z : FVec Ideal S32x1000000 .f32) (r : Fin 32) (k : ℕ) (hk : First (logit z r) 1000000 k) (hb : ⊥ < logit z r k) :
    best z (ValueIdx.ix1 r) = BitVec.ofNat 32 k := by
  unfold best
  exact arg_first _ rule_eq z _ _ ofBits_bot rfl r k hk hb

/-! ## The sample -/

/-- A sum at an index. -/
theorem add_at (x y : FVec Ideal S32x1000000 .f32) (j : S32x1000000.Idx) : addf x y j = (x j : EReal) + (y j : EReal) := rfl

/-- The noise at a row's cell. -/
theorem gumbel_cell (r : Fin 32) (i : ℕ) (h : i < 1000000) :
    gumbel (F := Ideal) (draws (words key0 key1 hi lo)) (cell r i h) = -(nz (F := Ideal) (word r i) : EReal) :=
  gumbel_at (cell r i h)

/-- What the reference takes the greatest of, at a row's column: the score less a number of the row's. -/
theorem noisy_row (x : FVec Ideal S32x1000000 .f32) (r : Fin 32) (M : ℝ) (hM : top x (ValueIdx.ix1 r) = (M : EReal)) :
    ∃ K : ℝ, ∀ i, i < 1000000 →
      logit (addf (gumbel (draws (words key0 key1 hi lo))) (logp (scaled x))) r i = sc x r i - (K : EReal) := by
  obtain ⟨K, hK⟩ := logp_row x r M hM
  refine ⟨K, fun i h => ?_⟩
  have hx : x (cell r i h) ≠ (⊤ : EReal) := fun e => by
    have := le_top x r i h
    rw [e, hM] at this
    exact absurd this (not_le.mpr (EReal.coe_lt_top M))
  obtain ⟨v, hv⟩ := nz_real (word r i)
  rw [logit_cell _ r i h, add_at, gumbel_cell, scaled_eq, hK i h]
  unfold sc
  rw [hv, logit_cell x r i h]
  exact add_noise _ v K hx

/-- A row whose maximum is finite has a score above `-∞`. -/
theorem score_above (x : FVec Ideal S32x1000000 .f32) (r : Fin 32) (M : ℝ) (hM : top x (ValueIdx.ix1 r) = (M : EReal)) (k : ℕ)
    (hk : First (sc x r) 1000000 k) : ⊥ < sc x r k := by
  obtain ⟨i, h, hb⟩ := exists_above x r (by rw [hM]; exact EReal.bot_lt_coe M)
  refine lt_of_lt_of_le ?_ (hk.2.1 i h)
  unfold sc
  obtain ⟨v, hv⟩ := nz_real (word r i)
  rw [hv, logit_cell x r i h]
  exact bot_lt_sub_real v hb

/-- A row whose maximum is finite has its sample at the first column whose score is greatest. -/
theorem sample_at (x : FVec Ideal S32x1000000 .f32) (i : S32x1.Idx) (r : Fin 32) (hr : (i 0 : Fin 32) = r) (M : ℝ)
    (hM : top x (ValueIdx.ix1 r) = (M : EReal)) (k : ℕ) (hk : First (sc x r) 1000000 k) : sample x i = BitVec.ofNat 32 k := by
  obtain ⟨K, hK⟩ := noisy_row x r M hM
  unfold sample
  rw [cast_col, show (i 0 : Fin 32) = r from hr]
  generalize addf (gumbel (draws (words key0 key1 hi lo))) (logp (scaled x)) = z at hK ⊢
  refine best_at z r k (hk.congr fun a ha b hb => ?_) ?_
  · rw [hK a ha, hK b hb]
    exact (sub_le_sub_real _ _ K).symm
  · rw [hK k hk.1]
    exact bot_lt_sub_real K (score_above x r M hM k hk)

end Cert.Ref
-- ==== Proof.Finite.lean ====
/- The precondition, read: every row's maximum is a real. -/
module

public import proofs.«01_k».proof.Pre_finite_row_maximum
public import proofs.«01_k».proof.Proof.RefMath
public import Idealize.ShloMosaic.Lib.ReduceAll

@[expose] public section

noncomputable section

namespace Cert.Ref

open Cert.ReferenceIdeal Cert.ReferenceIdeal.Gen Cert.Sample
open Idealize.ShloMosaic

/-- The side conditions of the precondition's operations. -/
theorem preFacts : Cert.Pre_finite_row_maximum.Facts where
  reducesTo_S32x1000000_S32_d1 := by decide
  h_S_ := by decide
  bcast_S_S32 := by decide
  reducesTo_S32_S_d0 := by decide

/-- A row value between the two infinities, as the precondition compares it, is a real. -/
theorem row_real (y : FVec Ideal S32 .f32) (h : S_.BroadcastsInDim S32 (![] : Fin 0 → Fin S32.rank)) (j : S32.Idx)
    (e : andi (cmpf .ogt y (broadcastInDim S32 ![] h (constant (F := Ideal) S_ .f32 0xFF800000#32)))
      (cmpf .olt y (broadcastInDim S32 ![] h (constant (F := Ideal) S_ .f32 0x7F800000#32))) j = 1#1) : ∃ M : ℝ, y j = (M : EReal) := by
  have e' : IntOp.andi (Ideal.cmp .ogt (y j) (Ideal.ofBits .f32 0xFF800000#32)) (Ideal.cmp .olt (y j) (Ideal.ofBits .f32 0x7F800000#32)) = 1#1 := e
  rw [ofBits_bot, ofBits_top, IntOp.andi_eq_one] at e'
  obtain ⟨h1, h2⟩ := e'
  have hb : (⊥ : EReal) < y j := by
    by_contra hn
    exact absurd h1 (by simp [Ideal.cmp, hn])
  have ht : (y j : EReal) < ⊤ := by
    by_contra hn
    exact absurd h2 (by simp [Ideal.cmp, hn])
  exact ⟨EReal.toReal (y j), (EReal.coe_toReal ht.ne hb.ne').symm⟩

/-- Under the precondition every row's maximum is a real. -/
theorem top_real [hPre : Cert.Pre_finite_row_maximum.Facts] (x : FVec Ideal S32x1000000 .f32)
    (h : Cert.Pre_finite_row_maximum.fn (F := Ideal) x = fun _ => 1#1) (r : Fin 32) :
    ∃ M : ℝ, top x (ValueIdx.ix1 r) = (M : EReal) := by
  have h1 := congrFun h (fun a => a.elim0)
  dsimp only [Cert.Pre_finite_row_maximum.fn] at h1
  have : Subsingleton Cert.Pre_finite_row_maximum.S_.Idx := ⟨fun a b => funext fun i => i.elim0⟩
  have h2 := Host.reduce_andi_all _ _ _ _ _ h1 (ValueIdx.ix1 r)
  unfold top
  exact row_real _ _ _ h2

/-- Where every row's maximum is a real, the reference's sample is the kernel's result. -/
theorem sample_result (m : (ℓ : Loc Cert.Kernel.nD Cert.Kernel.τ Cert.Kernel.sig) → Buf (Elt Ideal) ℓ) (c : Dev Cert.Kernel.nD)
    (x : FVec Ideal S32x1000000 .f32) (hx : x = m ((c.tc : Thread Cert.Kernel.nD Cert.Kernel.τ).loc Cert.Kernel.main_arg0))
    (hf : ∀ r, ∃ M : ℝ, top x (ValueIdx.ix1 r) = (M : EReal)) : sample x = result (F := Ideal) m c := by
  funext i
  obtain ⟨M, hM⟩ := hf (i 0)
  obtain ⟨k, hk⟩ := First.exists (sc x (i 0)) (n := 1000000) (by decide)
  refine (sample_at x i (i 0) rfl M hM k hk).trans ?_
  have hb := score_above x (i 0) M hM k hk
  subst hx
  exact (result_at m c i (i 0) rfl k hk hb).symm

end Cert.Ref
-- ==== Proof.lean ====
/- The proof of the certificate's claim: the three programs run, their argument unchanged and every counter zero at the end;
   the kernel idealized is the kernel; over the reals the kernel's result is the reference's wherever every row's maximum is
   finite. -/
module

public import proofs.«01_k».proof.Defs
public import proofs.«01_k».proof.Proof.Gen.Kernel
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Ideal
public import proofs.«01_k».proof.Proof.RefVal
public import proofs.«01_k».proof.Proof.Finite
public import Idealize.ShloMosaic.Adequacy
public import Idealize.ShloMosaic.Init

@[expose] public section

noncomputable section

namespace Cert.Proof

open Idealize.ShloMosaic Idealize.SL.Sem Cert.Kernel

/-- The kernel runs, its argument unchanged. -/
theorem frame_kernel : Cert.quiescent_Kernel (hKernel := Cert.Kernel.Gen.facts) := fun m g _ =>
  θ_run_mono (Cert.Sample.run m g) fun _ h => ⟨fun c => (h.1 c).2, h.2⟩

/-- The idealized kernel runs, its argument unchanged. -/
theorem frame_ideal : Cert.quiescent_KernelIdeal (hKernelIdeal := Cert.KernelIdeal.Gen.facts) := fun m g _ =>
  θ_run_mono (Cert.Sample.run_ideal m g) fun _ h => ⟨fun c => (h.1 c).2, h.2⟩

/-- The reference runs, its argument unchanged; it has no semaphore. -/
theorem frame_ref : Cert.quiescent_ReferenceIdeal (hReferenceIdeal := Cert.ReferenceIdeal.Gen.facts) := fun m g _ =>
  θ_run_mono (Cert.Ref.run m g) fun r h => ⟨fun c => (h c).2, sem_eq_zero_of_no_sems rfl r.2⟩

/-- Over the reals, where every row's maximum is finite, the two programs end with equal results. -/
theorem algebraic : Cert.algebraic_KernelIdeal_ReferenceIdeal_pre_finite_row_maximum (hKernelIdeal := Cert.KernelIdeal.Gen.facts)
    (hReferenceIdeal := Cert.ReferenceIdeal.Gen.facts) (hPre_finite_row_maximum := Cert.Ref.preFacts) := by
  intro m g m' g' hpre harg
  refine ⟨fun c => Cert.Sample.result (F := Ideal) m c, θ_run_mono (Cert.Sample.run_ideal m g) fun _ h => h.1,
    θ_run_mono (Cert.Ref.run m' g') fun r h c => ⟨(h c).1.trans ?_, (h c).2⟩⟩
  rw [harg c]
  exact Cert.Ref.sample_result m c _ rfl fun r => Cert.Ref.top_real (hPre := Cert.Ref.preFacts) _ (hpre c) r

/-- Everything the certificate claims. -/
theorem claim : Cert.Claim := ⟨Cert.Kernel.Gen.facts, Cert.KernelIdeal.Gen.facts, Cert.ReferenceIdeal.Gen.facts, Cert.Ref.preFacts,
  frame_kernel, frame_ideal, fun m g _ => frame_ideal m g trivial, frame_ref, fun m g _ => frame_ref m g trivial, trivial, algebraic⟩

end Cert.Proof

end
